-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x2048x8x16x8 : Shape := ⟨5, ![32, 2048, 8, 16, 8]⟩
abbrev S32x8x16x8x2048 : Shape := ⟨5, ![32, 8, 16, 8, 2048]⟩
abbrev S32x1024x2048 : Shape := ⟨3, ![32, 1024, 2048]⟩
abbrev S32x8x2048 : Shape := ⟨3, ![32, 8, 2048]⟩
abbrev S2x1024x512 : Shape := ⟨3, ![2, 1024, 512]⟩
abbrev S2x8x2048 : Shape := ⟨3, ![2, 8, 2048]⟩
abbrev S1x1024x512 : Shape := ⟨3, ![1, 1024, 512]⟩
abbrev S1024x512 : Shape := ⟨2, ![1024, 512]⟩
abbrev S64x16x512 : Shape := ⟨3, ![64, 16, 512]⟩
abbrev S64x8x512 : Shape := ⟨3, ![64, 8, 512]⟩
abbrev S64x512 : Shape := ⟨2, ![64, 512]⟩
abbrev S64 : Shape := ⟨1, ![64]⟩
abbrev S64x1 : Shape := ⟨2, ![64, 1]⟩
abbrev S8x1 : Shape := ⟨2, ![8, 1]⟩
abbrev S8x8 : Shape := ⟨2, ![8, 8]⟩
abbrev S8 : Shape := ⟨1, ![8]⟩
abbrev S8x8x512 : Shape := ⟨3, ![8, 8, 512]⟩
abbrev S8x512 : Shape := ⟨2, ![8, 512]⟩
abbrev S1x8x512 : Shape := ⟨3, ![1, 8, 512]⟩
abbrev S32x16384 : Shape := ⟨2, ![32, 16384]⟩

abbrev nBuf : Space → Nat
  | .hbm => 5
  | .vmem => 10
  | .smem => 0
  | _ => 0

abbrev bufTy : (tb : Table) → Fin (tcTables nBuf tb) → BufTy
  | .hbm, ⟨0, _⟩ => ⟨S32x2048x8x16x8, .f32⟩
  | .hbm, ⟨1, _⟩ => ⟨S32x8x16x8x2048, .f32⟩
  | .hbm, ⟨2, _⟩ => ⟨S32x1024x2048, .f32⟩
  | .hbm, ⟨3, _⟩ => ⟨S32x8x2048, .f32⟩
  | .hbm, ⟨4, _⟩ => ⟨S32x16384, .f32⟩
  | .local _ .vmem, ⟨0, _⟩ => ⟨S2x1024x512, .f32⟩
  | .local _ .vmem, ⟨1, _⟩ => ⟨S2x1024x512, .f32⟩
  | .local _ .vmem, ⟨2, _⟩ => ⟨S2x1024x512, .f32⟩
  | .local _ .vmem, ⟨3, _⟩ => ⟨S2x1024x512, .f32⟩
  | .local _ .vmem, ⟨4, _⟩ => ⟨S2x1024x512, .f32⟩
  | .local _ .vmem, ⟨5, _⟩ => ⟨S2x1024x512, .f32⟩
  | .local _ .vmem, ⟨6, _⟩ => ⟨S2x1024x512, .f32⟩
  | .local _ .vmem, ⟨7, _⟩ => ⟨S2x1024x512, .f32⟩
  | .local _ .vmem, ⟨8, _⟩ => ⟨S2x8x2048, .f32⟩
  | .local _ .vmem, ⟨9, _⟩ => ⟨S2x8x2048, .f32⟩
  | _, _ => ⟨S32x2048x8x16x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x2048x8x16x8 : Shape := ⟨5, ![32, 2048, 8, 16, 8]⟩
abbrev S32x2048x8x2x8 : Shape := ⟨5, ![32, 2048, 8, 2, 8]⟩
abbrev S_ : Shape := ⟨0, ![]⟩
abbrev S32x2048x8 : Shape := ⟨3, ![32, 2048, 8]⟩
abbrev S32x8 : Shape := ⟨2, ![32, 8]⟩
abbrev S32x2 : Shape := ⟨2, ![32, 2]⟩
abbrev S32x1x2 : Shape := ⟨3, ![32, 1, 2]⟩
abbrev S32x2x1 : Shape := ⟨3, ![32, 2, 1]⟩
abbrev S1 : Shape := ⟨1, ![1]⟩
abbrev S1x1x1 : Shape := ⟨3, ![1, 1, 1]⟩
abbrev S32x2048x2 : Shape := ⟨3, ![32, 2048, 2]⟩
abbrev S32x2048 : Shape := ⟨2, ![32, 2048]⟩
abbrev S32x16384 : Shape := ⟨2, ![32, 16384]⟩

abbrev nBuf : Space → Nat
  | .hbm => 362
  | .vmem => 0
  | .smem => 0
  | _ => 0

abbrev hbmTy0_0 (i : Nat) : BufTy := match i % 128 with
  | 0 => ⟨S32x2048x8x16x8, .f32⟩
  | 1 => ⟨S32x2048x8x2x8, .f32⟩
  | 2 => ⟨S_, .f32⟩
  | 3 => ⟨S32x2048x8, .f32⟩
  | 4 => ⟨S_, .f32⟩
  | 5 => ⟨S32x2048x8, .f32⟩
  | 6 => ⟨S32x2048x8, .f32⟩
  | 7 => ⟨S32x2048x8, .f32⟩
  | 8 => ⟨S_, .f32⟩
  | 9 => ⟨S32x8, .f32⟩
  | 10 => ⟨S_, .f32⟩
  | 11 => ⟨S_, .f32⟩
  | 12 => ⟨S32x8, .f32⟩
  | 13 => ⟨S32x8, .f32⟩
  | 14 => ⟨S32x8, .f32⟩
  | 15 => ⟨S32x2, .f32⟩
  | 16 => ⟨S32x2, .i32⟩
  | 17 => ⟨S32x1x2, .i32⟩
  | 18 => ⟨S_, .i32⟩
  | 19 => ⟨S32x1x2, .i32⟩
  | 20 => ⟨S32x1x2, .i1⟩
  | 21 => ⟨S_, .i32⟩
  | 22 => ⟨S32x1x2, .i32⟩
  | 23 => ⟨S32x1x2, .i32⟩
  | 24 => ⟨S32x1x2, .i32⟩
  | 25 => ⟨S32x2x1, .i32⟩
  | 26 => ⟨S1, .i32⟩
  | 27 => ⟨S_, .i32⟩
  | 28 => ⟨S32x2x1, .i32⟩
  | 29 => ⟨S32x2x1, .i1⟩
  | 30 => ⟨S1x1x1, .i32⟩
  | 31 => ⟨S32x2x1, .i32⟩
  | 32 => ⟨S32x2x1, .i1⟩
  | 33 => ⟨S32x2x1, .i1⟩
  | 34 => ⟨S_, .i1⟩
  | 35 => ⟨S32x2, .i1⟩
  | 36 => ⟨S32x2048x2, .f32⟩
  | 37 => ⟨S32x2048x2, .i1⟩
  | 38 => ⟨S_, .f32⟩
  | 39 => ⟨S32x2048x2, .f32⟩
  | 40 => ⟨S32x2048x2, .f32⟩
  | 41 => ⟨S_, .f32⟩
  | 42 => ⟨S32x2048, .f32⟩
  | 43 => ⟨S_, .f32⟩
  | 44 => ⟨S32x2048, .f32⟩
  | 45 => ⟨S32x2048, .f32⟩
  | 46 => ⟨S32x2048x8x2x8, .f32⟩
  | 47 => ⟨S_, .f32⟩
  | 48 => ⟨S32x2048x8, .f32⟩
  | 49 => ⟨S_, .f32⟩
  | 50 => ⟨S32x2048x8, .f32⟩
  | 51 => ⟨S32x2048x8, .f32⟩
  | 52 => ⟨S32x2048x8, .f32⟩
  | 53 => ⟨S_, .f32⟩
  | 54 => ⟨S32x8, .f32⟩
  | 55 => ⟨S_, .f32⟩
  | 56 => ⟨S_, .f32⟩
  | 57 => ⟨S32x8, .f32⟩
  | 58 => ⟨S32x8, .f32⟩
  | 59 => ⟨S32x8, .f32⟩
  | 60 => ⟨S32x2, .f32⟩
  | 61 => ⟨S32x2, .i32⟩
  | 62 => ⟨S32x1x2, .i32⟩
  | 63 => ⟨S_, .i32⟩
  | 64 => ⟨S32x1x2, .i32⟩
  | 65 => ⟨S32x1x2, .i1⟩
  | 66 => ⟨S_, .i32⟩
  | 67 => ⟨S32x1x2, .i32⟩
  | 68 => ⟨S32x1x2, .i32⟩
  | 69 => ⟨S32x1x2, .i32⟩
  | 70 => ⟨S32x2x1, .i32⟩
  | 71 => ⟨S1, .i32⟩
  | 72 => ⟨S_, .i32⟩
  | 73 => ⟨S32x2x1, .i32⟩
  | 74 => ⟨S32x2x1, .i1⟩
  | 75 => ⟨S1x1x1, .i32⟩
  | 76 => ⟨S32x2x1, .i32⟩
  | 77 => ⟨S32x2x1, .i1⟩
  | 78 => ⟨S32x2x1, .i1⟩
  | 79 => ⟨S_, .i1⟩
  | 80 => ⟨S32x2, .i1⟩
  | 81 => ⟨S32x2048x2, .f32⟩
  | 82 => ⟨S32x2048x2, .i1⟩
  | 83 => ⟨S_, .f32⟩
  | 84 => ⟨S32x2048x2, .f32⟩
  | 85 => ⟨S32x2048x2, .f32⟩
  | 86 => ⟨S_, .f32⟩
  | 87 => ⟨S32x2048, .f32⟩
  | 88 => ⟨S_, .f32⟩
  | 89 => ⟨S32x2048, .f32⟩
  | 90 => ⟨S32x2048, .f32⟩
  | 91 => ⟨S32x2048x8x2x8, .f32⟩
  | 92 => ⟨S_, .f32⟩
  | 93 => ⟨S32x2048x8, .f32⟩
  | 94 => ⟨S_, .f32⟩
  | 95 => ⟨S32x2048x8, .f32⟩
  | 96 => ⟨S32x2048x8, .f32⟩
  | 97 => ⟨S32x2048x8, .f32⟩
  | 98 => ⟨S_, .f32⟩
  | 99 => ⟨S32x8, .f32⟩
  | 100 => ⟨S_, .f32⟩
  | 101 => ⟨S_, .f32⟩
  | 102 => ⟨S32x8, .f32⟩
  | 103 => ⟨S32x8, .f32⟩
  | 104 => ⟨S32x8, .f32⟩
  | 105 => ⟨S32x2, .f32⟩
  | 106 => ⟨S32x2, .i32⟩
  | 107 => ⟨S32x1x2, .i32⟩
  | 108 => ⟨S_, .i32⟩
  | 109 => ⟨S32x1x2, .i32⟩
  | 110 => ⟨S32x1x2, .i1⟩
  | 111 => ⟨S_, .i32⟩
  | 112 => ⟨S32x1x2, .i32⟩
  | 113 => ⟨S32x1x2, .i32⟩
  | 114 => ⟨S32x1x2, .i32⟩
  | 115 => ⟨S32x2x1, .i32⟩
  | 116 => ⟨S1, .i32⟩
  | 117 => ⟨S_, .i32⟩
  | 118 => ⟨S32x2x1, .i32⟩
  | 119 => ⟨S32x2x1, .i1⟩
  | 120 => ⟨S1x1x1, .i32⟩
  | 121 => ⟨S32x2x1, .i32⟩
  | 122 => ⟨S32x2x1, .i1⟩
  | 123 => ⟨S32x2x1, .i1⟩
  | 124 => ⟨S_, .i1⟩
  | 125 => ⟨S32x2, .i1⟩
  | 126 => ⟨S32x2048x2, .f32⟩
  | 127 => ⟨S32x2048x2, .i1⟩
  | _ => ⟨S32x2048x8x16x8, .f32⟩

abbrev hbmTy0_1 (i : Nat) : BufTy := match i % 128 with
  | 0 => ⟨S_, .f32⟩
  | 1 => ⟨S32x2048x2, .f32⟩
  | 2 => ⟨S32x2048x2, .f32⟩
  | 3 => ⟨S_, .f32⟩
  | 4 => ⟨S32x2048, .f32⟩
  | 5 => ⟨S_, .f32⟩
  | 6 => ⟨S32x2048, .f32⟩
  | 7 => ⟨S32x2048, .f32⟩
  | 8 => ⟨S32x2048x8x2x8, .f32⟩
  | 9 => ⟨S_, .f32⟩
  | 10 => ⟨S32x2048x8, .f32⟩
  | 11 => ⟨S_, .f32⟩
  | 12 => ⟨S32x2048x8, .f32⟩
  | 13 => ⟨S32x2048x8, .f32⟩
  | 14 => ⟨S32x2048x8, .f32⟩
  | 15 => ⟨S_, .f32⟩
  | 16 => ⟨S32x8, .f32⟩
  | 17 => ⟨S_, .f32⟩
  | 18 => ⟨S_, .f32⟩
  | 19 => ⟨S32x8, .f32⟩
  | 20 => ⟨S32x8, .f32⟩
  | 21 => ⟨S32x8, .f32⟩
  | 22 => ⟨S32x2, .f32⟩
  | 23 => ⟨S32x2, .i32⟩
  | 24 => ⟨S32x1x2, .i32⟩
  | 25 => ⟨S_, .i32⟩
  | 26 => ⟨S32x1x2, .i32⟩
  | 27 => ⟨S32x1x2, .i1⟩
  | 28 => ⟨S_, .i32⟩
  | 29 => ⟨S32x1x2, .i32⟩
  | 30 => ⟨S32x1x2, .i32⟩
  | 31 => ⟨S32x1x2, .i32⟩
  | 32 => ⟨S32x2x1, .i32⟩
  | 33 => ⟨S1, .i32⟩
  | 34 => ⟨S_, .i32⟩
  | 35 => ⟨S32x2x1, .i32⟩
  | 36 => ⟨S32x2x1, .i1⟩
  | 37 => ⟨S1x1x1, .i32⟩
  | 38 => ⟨S32x2x1, .i32⟩
  | 39 => ⟨S32x2x1, .i1⟩
  | 40 => ⟨S32x2x1, .i1⟩
  | 41 => ⟨S_, .i1⟩
  | 42 => ⟨S32x2, .i1⟩
  | 43 => ⟨S32x2048x2, .f32⟩
  | 44 => ⟨S32x2048x2, .i1⟩
  | 45 => ⟨S_, .f32⟩
  | 46 => ⟨S32x2048x2, .f32⟩
  | 47 => ⟨S32x2048x2, .f32⟩
  | 48 => ⟨S_, .f32⟩
  | 49 => ⟨S32x2048, .f32⟩
  | 50 => ⟨S_, .f32⟩
  | 51 => ⟨S32x2048, .f32⟩
  | 52 => ⟨S32x2048, .f32⟩
  | 53 => ⟨S32x2048x8x2x8, .f32⟩
  | 54 => ⟨S_, .f32⟩
  | 55 => ⟨S32x2048x8, .f32⟩
  | 56 => ⟨S_, .f32⟩
  | 57 => ⟨S32x2048x8, .f32⟩
  | 58 => ⟨S32x2048x8, .f32⟩
  | 59 => ⟨S32x2048x8, .f32⟩
  | 60 => ⟨S_, .f32⟩
  | 61 => ⟨S32x8, .f32⟩
  | 62 => ⟨S_, .f32⟩
  | 63 => ⟨S_, .f32⟩
  | 64 => ⟨S32x8, .f32⟩
  | 65 => ⟨S32x8, .f32⟩
  | 66 => ⟨S32x8, .f32⟩
  | 67 => ⟨S32x2, .f32⟩
  | 68 => ⟨S32x2, .i32⟩
  | 69 => ⟨S32x1x2, .i32⟩
  | 70 => ⟨S_, .i32⟩
  | 71 => ⟨S32x1x2, .i32⟩
  | 72 => ⟨S32x1x2, .i1⟩
  | 73 => ⟨S_, .i32⟩
  | 74 => ⟨S32x1x2, .i32⟩
  | 75 => ⟨S32x1x2, .i32⟩
  | 76 => ⟨S32x1x2, .i32⟩
  | 77 => ⟨S32x2x1, .i32⟩
  | 78 => ⟨S1, .i32⟩
  | 79 => ⟨S_, .i32⟩
  | 80 => ⟨S32x2x1, .i32⟩
  | 81 => ⟨S32x2x1, .i1⟩
  | 82 => ⟨S1x1x1, .i32⟩
  | 83 => ⟨S32x2x1, .i32⟩
  | 84 => ⟨S32x2x1, .i1⟩
  | 85 => ⟨S32x2x1, .i1⟩
  | 86 => ⟨S_, .i1⟩
  | 87 => ⟨S32x2, .i1⟩
  | 88 => ⟨S32x2048x2, .f32⟩
  | 89 => ⟨S32x2048x2, .i1⟩
  | 90 => ⟨S_, .f32⟩
  | 91 => ⟨S32x2048x2, .f32⟩
  | 92 => ⟨S32x2048x2, .f32⟩
  | 93 => ⟨S_, .f32⟩
  | 94 => ⟨S32x2048, .f32⟩
  | 95 => ⟨S_, .f32⟩
  | 96 => ⟨S32x2048, .f32⟩
  | 97 => ⟨S32x2048, .f32⟩
  | 98 => ⟨S32x2048x8x2x8, .f32⟩
  | 99 => ⟨S_, .f32⟩
  | 100 => ⟨S32x2048x8, .f32⟩
  | 101 => ⟨S_, .f32⟩
  | 102 => ⟨S32x2048x8, .f32⟩
  | 103 => ⟨S32x2048x8, .f32⟩
  | 104 => ⟨S32x2048x8, .f32⟩
  | 105 => ⟨S_, .f32⟩
  | 106 => ⟨S32x8, .f32⟩
  | 107 => ⟨S_, .f32⟩
  | 108 => ⟨S_, .f32⟩
  | 109 => ⟨S32x8, .f32⟩
  | 110 => ⟨S32x8, .f32⟩
  | 111 => ⟨S32x8, .f32⟩
  | 112 => ⟨S32x2, .f32⟩
  | 113 => ⟨S32x2, .i32⟩
  | 114 => ⟨S32x1x2, .i32⟩
  | 115 => ⟨S_, .i32⟩
  | 116 => ⟨S32x1x2, .i32⟩
  | 117 => ⟨S32x1x2, .i1⟩
  | 118 => ⟨S_, .i32⟩
  | 119 => ⟨S32x1x2, .i32⟩
  | 120 => ⟨S32x1x2, .i32⟩
  | 121 => ⟨S32x1x2, .i32⟩
  | 122 => ⟨S32x2x1, .i32⟩
  | 123 => ⟨S1, .i32⟩
  | 124 => ⟨S_, .i32⟩
  | 125 => ⟨S32x2x1, .i32⟩
  | 126 => ⟨S32x2x1, .i1⟩
  | 127 => ⟨S1x1x1, .i32⟩
  | _ => ⟨S32x2048x8x16x8, .f32⟩

abbrev hbmTy0_2 (i : Nat) : BufTy := match i % 128 with
  | 0 => ⟨S32x2x1, .i32⟩
  | 1 => ⟨S32x2x1, .i1⟩
  | 2 => ⟨S32x2x1, .i1⟩
  | 3 => ⟨S_, .i1⟩
  | 4 => ⟨S32x2, .i1⟩
  | 5 => ⟨S32x2048x2, .f32⟩
  | 6 => ⟨S32x2048x2, .i1⟩
  | 7 => ⟨S_, .f32⟩
  | 8 => ⟨S32x2048x2, .f32⟩
  | 9 => ⟨S32x2048x2, .f32⟩
  | 10 => ⟨S_, .f32⟩
  | 11 => ⟨S32x2048, .f32⟩
  | 12 => ⟨S_, .f32⟩
  | 13 => ⟨S32x2048, .f32⟩
  | 14 => ⟨S32x2048, .f32⟩
  | 15 => ⟨S32x2048x8x2x8, .f32⟩
  | 16 => ⟨S_, .f32⟩
  | 17 => ⟨S32x2048x8, .f32⟩
  | 18 => ⟨S_, .f32⟩
  | 19 => ⟨S32x2048x8, .f32⟩
  | 20 => ⟨S32x2048x8, .f32⟩
  | 21 => ⟨S32x2048x8, .f32⟩
  | 22 => ⟨S_, .f32⟩
  | 23 => ⟨S32x8, .f32⟩
  | 24 => ⟨S_, .f32⟩
  | 25 => ⟨S_, .f32⟩
  | 26 => ⟨S32x8, .f32⟩
  | 27 => ⟨S32x8, .f32⟩
  | 28 => ⟨S32x8, .f32⟩
  | 29 => ⟨S32x2, .f32⟩
  | 30 => ⟨S32x2, .i32⟩
  | 31 => ⟨S32x1x2, .i32⟩
  | 32 => ⟨S_, .i32⟩
  | 33 => ⟨S32x1x2, .i32⟩
  | 34 => ⟨S32x1x2, .i1⟩
  | 35 => ⟨S_, .i32⟩
  | 36 => ⟨S32x1x2, .i32⟩
  | 37 => ⟨S32x1x2, .i32⟩
  | 38 => ⟨S32x1x2, .i32⟩
  | 39 => ⟨S32x2x1, .i32⟩
  | 40 => ⟨S1, .i32⟩
  | 41 => ⟨S_, .i32⟩
  | 42 => ⟨S32x2x1, .i32⟩
  | 43 => ⟨S32x2x1, .i1⟩
  | 44 => ⟨S1x1x1, .i32⟩
  | 45 => ⟨S32x2x1, .i32⟩
  | 46 => ⟨S32x2x1, .i1⟩
  | 47 => ⟨S32x2x1, .i1⟩
  | 48 => ⟨S_, .i1⟩
  | 49 => ⟨S32x2, .i1⟩
  | 50 => ⟨S32x2048x2, .f32⟩
  | 51 => ⟨S32x2048x2, .i1⟩
  | 52 => ⟨S_, .f32⟩
  | 53 => ⟨S32x2048x2, .f32⟩
  | 54 => ⟨S32x2048x2, .f32⟩
  | 55 => ⟨S_, .f32⟩
  | 56 => ⟨S32x2048, .f32⟩
  | 57 => ⟨S_, .f32⟩
  | 58 => ⟨S32x2048, .f32⟩
  | 59 => ⟨S32x2048, .f32⟩
  | 60 => ⟨S32x2048x8x2x8, .f32⟩
  | 61 => ⟨S_, .f32⟩
  | 62 => ⟨S32x2048x8, .f32⟩
  | 63 => ⟨S_, .f32⟩
  | 64 => ⟨S32x2048x8, .f32⟩
  | 65 => ⟨S32x2048x8, .f32⟩
  | 66 => ⟨S32x2048x8, .f32⟩
  | 67 => ⟨S_, .f32⟩
  | 68 => ⟨S32x8, .f32⟩
  | 69 => ⟨S_, .f32⟩
  | 70 => ⟨S_, .f32⟩
  | 71 => ⟨S32x8, .f32⟩
  | 72 => ⟨S32x8, .f32⟩
  | 73 => ⟨S32x8, .f32⟩
  | 74 => ⟨S32x2, .f32⟩
  | 75 => ⟨S32x2, .i32⟩
  | 76 => ⟨S32x1x2, .i32⟩
  | 77 => ⟨S_, .i32⟩
  | 78 => ⟨S32x1x2, .i32⟩
  | 79 => ⟨S32x1x2, .i1⟩
  | 80 => ⟨S_, .i32⟩
  | 81 => ⟨S32x1x2, .i32⟩
  | 82 => ⟨S32x1x2, .i32⟩
  | 83 => ⟨S32x1x2, .i32⟩
  | 84 => ⟨S32x2x1, .i32⟩
  | 85 => ⟨S1, .i32⟩
  | 86 => ⟨S_, .i32⟩
  | 87 => ⟨S32x2x1, .i32⟩
  | 88 => ⟨S32x2x1, .i1⟩
  | 89 => ⟨S1x1x1, .i32⟩
  | 90 => ⟨S32x2x1, .i32⟩
  | 91 => ⟨S32x2x1, .i1⟩
  | 92 => ⟨S32x2x1, .i1⟩
  | 93 => ⟨S_, .i1⟩
  | 94 => ⟨S32x2, .i1⟩
  | 95 => ⟨S32x2048x2, .f32⟩
  | 96 => ⟨S32x2048x2, .i1⟩
  | 97 => ⟨S_, .f32⟩
  | 98 => ⟨S32x2048x2, .f32⟩
  | 99 => ⟨S32x2048x2, .f32⟩
  | 100 => ⟨S_, .f32⟩
  | 101 => ⟨S32x2048, .f32⟩
  | 102 => ⟨S_, .f32⟩
  | 103 => ⟨S32x2048, .f32⟩
  | 104 => ⟨S32x2048, .f32⟩
  | 105 => ⟨S32x16384, .f32⟩
  | _ => ⟨S32x2048x8x16x8, .f32⟩

abbrev hbmTy (i : Nat) : BufTy := match i / 128 with
  | 0 => hbmTy0_0 i
  | 1 => hbmTy0_1 i
  | 2 => hbmTy0_2 i
  | _ => ⟨S32x2048x8x16x8, .f32⟩

abbrev bufTy : (tb : Table) → Fin (tcTables nBuf tb) → BufTy
  | .hbm, ⟨i, _⟩ => hbmTy i
  | _, _ => ⟨S32x2048x8x16x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_values : Ref sig .tc := ⟨.hbm, 15, rfl⟩
abbrev main_indices : Ref sig .tc := ⟨.hbm, 16, rfl⟩
abbrev main_v8 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_v14 : Ref sig .tc := ⟨.hbm, 37, rfl⟩
abbrev main_call1_cst : Ref sig .tc := ⟨.hbm, 38, rfl⟩
abbrev main_call1_v15 : Ref sig .tc := ⟨.hbm, 39, rfl⟩
abbrev main_v9 : Ref sig .tc := ⟨.hbm, 40, rfl⟩
abbrev main_cst_3 : Ref sig .tc := ⟨.hbm, 41, rfl⟩
abbrev main_v10 : Ref sig .tc := ⟨.hbm, 42, rfl⟩
abbrev main_cst_4 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_5 : Ref sig .tc := ⟨.hbm, 47, rfl⟩
abbrev main_v14 : Ref sig .tc := ⟨.hbm, 48, rfl⟩
abbrev main_cst_6 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_7 : Ref sig .tc := ⟨.hbm, 53, rfl⟩
abbrev main_v18 : Ref sig .tc := ⟨.hbm, 54, rfl⟩
abbrev main_cst_8 : Ref sig .tc := ⟨.hbm, 55, rfl⟩
abbrev main_call2_v0 : Ref sig .tc := ⟨.hbm, 56, rfl⟩
abbrev main_call2_v1 : Ref sig .tc := ⟨.hbm, 57, rfl⟩
abbrev main_v19 : Ref sig .tc := ⟨.hbm, 58, rfl⟩
abbrev main_v20 : Ref sig .tc := ⟨.hbm, 59, rfl⟩
abbrev main_values_9 : Ref sig .tc := ⟨.hbm, 60, rfl⟩
abbrev main_indices_10 : Ref sig .tc := ⟨.hbm, 61, rfl⟩
abbrev main_v21 : Ref sig .tc := ⟨.hbm, 62, rfl⟩
abbrev main_call3_c : Ref sig .tc := ⟨.hbm, 63, rfl⟩
abbrev main_call3_v0 : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_c_1 : Ref sig .tc := ⟨.hbm, 71, rfl⟩
abbrev main_call3_c_2 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_3 : Ref sig .tc := ⟨.hbm, 79, rfl⟩
abbrev main_call3_v12 : Ref sig .tc := ⟨.hbm, 80, rfl⟩
abbrev main_call3_v13 : Ref sig .tc := ⟨.hbm, 81, rfl⟩
abbrev main_call3_v14 : Ref sig .tc := ⟨.hbm, 82, rfl⟩
abbrev main_call3_cst : Ref sig .tc := ⟨.hbm, 83, rfl⟩
abbrev main_call3_v15 : Ref sig .tc := ⟨.hbm, 84, rfl⟩
abbrev main_v22 : Ref sig .tc := ⟨.hbm, 85, rfl⟩
abbrev main_cst_11 : Ref sig .tc := ⟨.hbm, 86, rfl⟩
abbrev main_v23 : Ref sig .tc := ⟨.hbm, 87, rfl⟩
abbrev main_cst_12 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_cst_13 : Ref sig .tc := ⟨.hbm, 92, rfl⟩
abbrev main_v27 : Ref sig .tc := ⟨.hbm, 93, rfl⟩
abbrev main_cst_14 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_cst_15 : Ref sig .tc := ⟨.hbm, 98, rfl⟩
abbrev main_v31 : Ref sig .tc := ⟨.hbm, 99, rfl⟩
abbrev main_cst_16 : Ref sig .tc := ⟨.hbm, 100, rfl⟩
abbrev main_call4_v0 : Ref sig .tc := ⟨.hbm, 101, rfl⟩
abbrev main_call4_v1 : Ref sig .tc := ⟨.hbm, 102, rfl⟩
abbrev main_v32 : Ref sig .tc := ⟨.hbm, 103, rfl⟩
abbrev main_v33 : Ref sig .tc := ⟨.hbm, 104, rfl⟩
abbrev main_values_17 : Ref sig .tc := ⟨.hbm, 105, rfl⟩
abbrev main_indices_18 : Ref sig .tc := ⟨.hbm, 106, rfl⟩
abbrev main_v34 : Ref sig .tc := ⟨.hbm, 107, rfl⟩
abbrev main_call5_c : Ref sig .tc := ⟨.hbm, 108, rfl⟩
abbrev main_call5_v0 : Ref sig .tc := ⟨.hbm, 109, rfl⟩
abbrev main_call5_v1 : Ref sig .tc := ⟨.hbm, 110, rfl⟩
abbrev main_call5_c_0 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_call5_v5 : Ref sig .tc := ⟨.hbm, 115, rfl⟩
abbrev main_call5_c_1 : Ref sig .tc := ⟨.hbm, 116, rfl⟩
abbrev main_call5_c_2 : Ref sig .tc := ⟨.hbm, 117, rfl⟩
abbrev main_call5_v6 : Ref sig .tc := ⟨.hbm, 118, rfl⟩
abbrev main_call5_v7 : Ref sig .tc := ⟨.hbm, 119, rfl⟩
abbrev main_call5_v8 : Ref sig .tc := ⟨.hbm, 120, rfl⟩
abbrev main_call5_v9 : Ref sig .tc := ⟨.hbm, 121, rfl⟩
abbrev main_call5_v10 : Ref sig .tc := ⟨.hbm, 122, rfl⟩
abbrev main_call5_v11 : Ref sig .tc := ⟨.hbm, 123, rfl⟩
abbrev main_call5_c_3 : Ref sig .tc := ⟨.hbm, 124, rfl⟩
abbrev main_call5_v12 : Ref sig .tc := ⟨.hbm, 125, rfl⟩
abbrev main_call5_v13 : Ref sig .tc := ⟨.hbm, 126, rfl⟩
abbrev main_call5_v14 : Ref sig .tc := ⟨.hbm, 127, rfl⟩
abbrev main_call5_cst : Ref sig .tc := ⟨.hbm, 128, rfl⟩
abbrev main_call5_v15 : Ref sig .tc := ⟨.hbm, 129, rfl⟩
abbrev main_v35 : Ref sig .tc := ⟨.hbm, 130, rfl⟩
abbrev main_cst_19 : Ref sig .tc := ⟨.hbm, 131, rfl⟩
abbrev main_v36 : Ref sig .tc := ⟨.hbm, 132, rfl⟩
abbrev main_cst_20 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_cst_21 : Ref sig .tc := ⟨.hbm, 137, rfl⟩
abbrev main_v40 : Ref sig .tc := ⟨.hbm, 138, rfl⟩
abbrev main_cst_22 : Ref sig .tc := ⟨.hbm, 139, rfl⟩
abbrev main_v41 : Ref sig .tc := ⟨.hbm, 140, rfl⟩
abbrev main_v42 : Ref sig .tc := ⟨.hbm, 141, rfl⟩
abbrev main_v43 : Ref sig .tc := ⟨.hbm, 142, rfl⟩
abbrev main_cst_23 : Ref sig .tc := ⟨.hbm, 143, rfl⟩
abbrev main_v44 : Ref sig .tc := ⟨.hbm, 144, rfl⟩
abbrev main_cst_24 : Ref sig .tc := ⟨.hbm, 145, rfl⟩
abbrev main_call6_v0 : Ref sig .tc := ⟨.hbm, 146, rfl⟩
abbrev main_call6_v1 : Ref sig .tc := ⟨.hbm, 147, rfl⟩
abbrev main_v45 : Ref sig .tc := ⟨.hbm, 148, rfl⟩
abbrev main_v46 : Ref sig .tc := ⟨.hbm, 149, rfl⟩
abbrev main_values_25 : Ref sig .tc := ⟨.hbm, 150, rfl⟩
abbrev main_indices_26 : Ref sig .tc := ⟨.hbm, 151, rfl⟩
abbrev main_v47 : Ref sig .tc := ⟨.hbm, 152, rfl⟩
abbrev main_call7_c : Ref sig .tc := ⟨.hbm, 153, rfl⟩
abbrev main_call7_v0 : Ref sig .tc := ⟨.hbm, 154, rfl⟩
abbrev main_call7_v1 : Ref sig .tc := ⟨.hbm, 155, rfl⟩
abbrev main_call7_c_0 : Ref sig .tc := ⟨.hbm, 156, rfl⟩
abbrev main_call7_v2 : Ref sig .tc := ⟨.hbm, 157, rfl⟩
abbrev main_call7_v3 : Ref sig .tc := ⟨.hbm, 158, rfl⟩
abbrev main_call7_v4 : Ref sig .tc := ⟨.hbm, 159, rfl⟩
abbrev main_call7_v5 : Ref sig .tc := ⟨.hbm, 160, rfl⟩
abbrev main_call7_c_1 : Ref sig .tc := ⟨.hbm, 161, rfl⟩
abbrev main_call7_c_2 : Ref sig .tc := ⟨.hbm, 162, rfl⟩
abbrev main_call7_v6 : Ref sig .tc := ⟨.hbm, 163, rfl⟩
abbrev main_call7_v7 : Ref sig .tc := ⟨.hbm, 164, rfl⟩
abbrev main_call7_v8 : Ref sig .tc := ⟨.hbm, 165, rfl⟩
abbrev main_call7_v9 : Ref sig .tc := ⟨.hbm, 166, rfl⟩
abbrev main_call7_v10 : Ref sig .tc := ⟨.hbm, 167, rfl⟩
abbrev main_call7_v11 : Ref sig .tc := ⟨.hbm, 168, rfl⟩
abbrev main_call7_c_3 : Ref sig .tc := ⟨.hbm, 169, rfl⟩
abbrev main_call7_v12 : Ref sig .tc := ⟨.hbm, 170, rfl⟩
abbrev main_call7_v13 : Ref sig .tc := ⟨.hbm, 171, rfl⟩
abbrev main_call7_v14 : Ref sig .tc := ⟨.hbm, 172, rfl⟩
abbrev main_call7_cst : Ref sig .tc := ⟨.hbm, 173, rfl⟩
abbrev main_call7_v15 : Ref sig .tc := ⟨.hbm, 174, rfl⟩
abbrev main_v48 : Ref sig .tc := ⟨.hbm, 175, rfl⟩
abbrev main_cst_27 : Ref sig .tc := ⟨.hbm, 176, rfl⟩
abbrev main_v49 : Ref sig .tc := ⟨.hbm, 177, rfl⟩
abbrev main_cst_28 : Ref sig .tc := ⟨.hbm, 178, rfl⟩
abbrev main_v50 : Ref sig .tc := ⟨.hbm, 179, rfl⟩
abbrev main_v51 : Ref sig .tc := ⟨.hbm, 180, rfl⟩
abbrev main_v52 : Ref sig .tc := ⟨.hbm, 181, rfl⟩
abbrev main_cst_29 : Ref sig .tc := ⟨.hbm, 182, rfl⟩
abbrev main_v53 : Ref sig .tc := ⟨.hbm, 183, rfl⟩
abbrev main_cst_30 : Ref sig .tc := ⟨.hbm, 184, rfl⟩
abbrev main_v54 : Ref sig .tc := ⟨.hbm, 185, rfl⟩
abbrev main_v55 : Ref sig .tc := ⟨.hbm, 186, rfl⟩
abbrev main_v56 : Ref sig .tc := ⟨.hbm, 187, rfl⟩
abbrev main_cst_31 : Ref sig .tc := ⟨.hbm, 188, rfl⟩
abbrev main_v57 : Ref sig .tc := ⟨.hbm, 189, rfl⟩
abbrev main_cst_32 : Ref sig .tc := ⟨.hbm, 190, rfl⟩
abbrev main_call8_v0 : Ref sig .tc := ⟨.hbm, 191, rfl⟩
abbrev main_call8_v1 : Ref sig .tc := ⟨.hbm, 192, rfl⟩
abbrev main_v58 : Ref sig .tc := ⟨.hbm, 193, rfl⟩
abbrev main_v59 : Ref sig .tc := ⟨.hbm, 194, rfl⟩
abbrev main_values_33 : Ref sig .tc := ⟨.hbm, 195, rfl⟩
abbrev main_indices_34 : Ref sig .tc := ⟨.hbm, 196, rfl⟩
abbrev main_v60 : Ref sig .tc := ⟨.hbm, 197, rfl⟩
abbrev main_call9_c : Ref sig .tc := ⟨.hbm, 198, rfl⟩
abbrev main_call9_v0 : Ref sig .tc := ⟨.hbm, 199, rfl⟩
abbrev main_call9_v1 : Ref sig .tc := ⟨.hbm, 200, rfl⟩
abbrev main_call9_c_0 : Ref sig .tc := ⟨.hbm, 201, rfl⟩
abbrev main_call9_v2 : Ref sig .tc := ⟨.hbm, 202, rfl⟩
abbrev main_call9_v3 : Ref sig .tc := ⟨.hbm, 203, rfl⟩
abbrev main_call9_v4 : Ref sig .tc := ⟨.hbm, 204, rfl⟩
abbrev main_call9_v5 : Ref sig .tc := ⟨.hbm, 205, rfl⟩
abbrev main_call9_c_1 : Ref sig .tc := ⟨.hbm, 206, rfl⟩
abbrev main_call9_c_2 : Ref sig .tc := ⟨.hbm, 207, rfl⟩
abbrev main_call9_v6 : Ref sig .tc := ⟨.hbm, 208, rfl⟩
abbrev main_call9_v7 : Ref sig .tc := ⟨.hbm, 209, rfl⟩
abbrev main_call9_v8 : Ref sig .tc := ⟨.hbm, 210, rfl⟩
abbrev main_call9_v9 : Ref sig .tc := ⟨.hbm, 211, rfl⟩
abbrev main_call9_v10 : Ref sig .tc := ⟨.hbm, 212, rfl⟩
abbrev main_call9_v11 : Ref sig .tc := ⟨.hbm, 213, rfl⟩
abbrev main_call9_c_3 : Ref sig .tc := ⟨.hbm, 214, rfl⟩
abbrev main_call9_v12 : Ref sig .tc := ⟨.hbm, 215, rfl⟩
abbrev main_call9_v13 : Ref sig .tc := ⟨.hbm, 216, rfl⟩
abbrev main_call9_v14 : Ref sig .tc := ⟨.hbm, 217, rfl⟩
abbrev main_call9_cst : Ref sig .tc := ⟨.hbm, 218, rfl⟩
abbrev main_call9_v15 : Ref sig .tc := ⟨.hbm, 219, rfl⟩
abbrev main_v61 : Ref sig .tc := ⟨.hbm, 220, rfl⟩
abbrev main_cst_35 : Ref sig .tc := ⟨.hbm, 221, rfl⟩
abbrev main_v62 : Ref sig .tc := ⟨.hbm, 222, rfl⟩
abbrev main_cst_36 : Ref sig .tc := ⟨.hbm, 223, rfl⟩
abbrev main_v63 : Ref sig .tc := ⟨.hbm, 224, rfl⟩
abbrev main_v64 : Ref sig .tc := ⟨.hbm, 225, rfl⟩
abbrev main_v65 : Ref sig .tc := ⟨.hbm, 226, rfl⟩
abbrev main_cst_37 : Ref sig .tc := ⟨.hbm, 227, rfl⟩
abbrev main_v66 : Ref sig .tc := ⟨.hbm, 228, rfl⟩
abbrev main_cst_38 : Ref sig .tc := ⟨.hbm, 229, rfl⟩
abbrev main_v67 : Ref sig .tc := ⟨.hbm, 230, rfl⟩
abbrev main_v68 : Ref sig .tc := ⟨.hbm, 231, rfl⟩
abbrev main_v69 : Ref sig .tc := ⟨.hbm, 232, rfl⟩
abbrev main_cst_39 : Ref sig .tc := ⟨.hbm, 233, rfl⟩
abbrev main_v70 : Ref sig .tc := ⟨.hbm, 234, rfl⟩
abbrev main_cst_40 : Ref sig .tc := ⟨.hbm, 235, rfl⟩
abbrev main_call10_v0 : Ref sig .tc := ⟨.hbm, 236, rfl⟩
abbrev main_call10_v1 : Ref sig .tc := ⟨.hbm, 237, rfl⟩
abbrev main_v71 : Ref sig .tc := ⟨.hbm, 238, rfl⟩
abbrev main_v72 : Ref sig .tc := ⟨.hbm, 239, rfl⟩
abbrev main_values_41 : Ref sig .tc := ⟨.hbm, 240, rfl⟩
abbrev main_indices_42 : Ref sig .tc := ⟨.hbm, 241, rfl⟩
abbrev main_v73 : Ref sig .tc := ⟨.hbm, 242, rfl⟩
abbrev main_call11_c : Ref sig .tc := ⟨.hbm, 243, rfl⟩
abbrev main_call11_v0 : Ref sig .tc := ⟨.hbm, 244, rfl⟩
abbrev main_call11_v1 : Ref sig .tc := ⟨.hbm, 245, rfl⟩
abbrev main_call11_c_0 : Ref sig .tc := ⟨.hbm, 246, rfl⟩
abbrev main_call11_v2 : Ref sig .tc := ⟨.hbm, 247, rfl⟩
abbrev main_call11_v3 : Ref sig .tc := ⟨.hbm, 248, rfl⟩
abbrev main_call11_v4 : Ref sig .tc := ⟨.hbm, 249, rfl⟩
abbrev main_call11_v5 : Ref sig .tc := ⟨.hbm, 250, rfl⟩
abbrev main_call11_c_1 : Ref sig .tc := ⟨.hbm, 251, rfl⟩
abbrev main_call11_c_2 : Ref sig .tc := ⟨.hbm, 252, rfl⟩
abbrev main_call11_v6 : Ref sig .tc := ⟨.hbm, 253, rfl⟩
abbrev main_call11_v7 : Ref sig .tc := ⟨.hbm, 254, rfl⟩
abbrev main_call11_v8 : Ref sig .tc := ⟨.hbm, 255, rfl⟩
abbrev main_call11_v9 : Ref sig .tc := ⟨.hbm, 256, rfl⟩
abbrev main_call11_v10 : Ref sig .tc := ⟨.hbm, 257, rfl⟩
abbrev main_call11_v11 : Ref sig .tc := ⟨.hbm, 258, rfl⟩
abbrev main_call11_c_3 : Ref sig .tc := ⟨.hbm, 259, rfl⟩
abbrev main_call11_v12 : Ref sig .tc := ⟨.hbm, 260, rfl⟩
abbrev main_call11_v13 : Ref sig .tc := ⟨.hbm, 261, rfl⟩
abbrev main_call11_v14 : Ref sig .tc := ⟨.hbm, 262, rfl⟩
abbrev main_call11_cst : Ref sig .tc := ⟨.hbm, 263, rfl⟩
abbrev main_call11_v15 : Ref sig .tc := ⟨.hbm, 264, rfl⟩
abbrev main_v74 : Ref sig .tc := ⟨.hbm, 265, rfl⟩
abbrev main_cst_43 : Ref sig .tc := ⟨.hbm, 266, rfl⟩
abbrev main_v75 : Ref sig .tc := ⟨.hbm, 267, rfl⟩
abbrev main_cst_44 : Ref sig .tc := ⟨.hbm, 268, rfl⟩
abbrev main_v76 : Ref sig .tc := ⟨.hbm, 269, rfl⟩
abbrev main_v77 : Ref sig .tc := ⟨.hbm, 270, rfl⟩
abbrev main_v78 : Ref sig .tc := ⟨.hbm, 271, rfl⟩
abbrev main_cst_45 : Ref sig .tc := ⟨.hbm, 272, rfl⟩
abbrev main_v79 : Ref sig .tc := ⟨.hbm, 273, rfl⟩
abbrev main_cst_46 : Ref sig .tc := ⟨.hbm, 274, rfl⟩
abbrev main_v80 : Ref sig .tc := ⟨.hbm, 275, rfl⟩
abbrev main_v81 : Ref sig .tc := ⟨.hbm, 276, rfl⟩
abbrev main_v82 : Ref sig .tc := ⟨.hbm, 277, rfl⟩
abbrev main_cst_47 : Ref sig .tc := ⟨.hbm, 278, rfl⟩
abbrev main_v83 : Ref sig .tc := ⟨.hbm, 279, rfl⟩
abbrev main_cst_48 : Ref sig .tc := ⟨.hbm, 280, rfl⟩
abbrev main_call12_v0 : Ref sig .tc := ⟨.hbm, 281, rfl⟩
abbrev main_call12_v1 : Ref sig .tc := ⟨.hbm, 282, rfl⟩
abbrev main_v84 : Ref sig .tc := ⟨.hbm, 283, rfl⟩
abbrev main_v85 : Ref sig .tc := ⟨.hbm, 284, rfl⟩
abbrev main_values_49 : Ref sig .tc := ⟨.hbm, 285, rfl⟩
abbrev main_indices_50 : Ref sig .tc := ⟨.hbm, 286, rfl⟩
abbrev main_v86 : Ref sig .tc := ⟨.hbm, 287, rfl⟩
abbrev main_call13_c : Ref sig .tc := ⟨.hbm, 288, rfl⟩
abbrev main_call13_v0 : Ref sig .tc := ⟨.hbm, 289, rfl⟩
abbrev main_call13_v1 : Ref sig .tc := ⟨.hbm, 290, rfl⟩
abbrev main_call13_c_0 : Ref sig .tc := ⟨.hbm, 291, rfl⟩
abbrev main_call13_v2 : Ref sig .tc := ⟨.hbm, 292, rfl⟩
abbrev main_call13_v3 : Ref sig .tc := ⟨.hbm, 293, rfl⟩
abbrev main_call13_v4 : Ref sig .tc := ⟨.hbm, 294, rfl⟩
abbrev main_call13_v5 : Ref sig .tc := ⟨.hbm, 295, rfl⟩
abbrev main_call13_c_1 : Ref sig .tc := ⟨.hbm, 296, rfl⟩
abbrev main_call13_c_2 : Ref sig .tc := ⟨.hbm, 297, rfl⟩
abbrev main_call13_v6 : Ref sig .tc := ⟨.hbm, 298, rfl⟩
abbrev main_call13_v7 : Ref sig .tc := ⟨.hbm, 299, rfl⟩
abbrev main_call13_v8 : Ref sig .tc := ⟨.hbm, 300, rfl⟩
abbrev main_call13_v9 : Ref sig .tc := ⟨.hbm, 301, rfl⟩
abbrev main_call13_v10 : Ref sig .tc := ⟨.hbm, 302, rfl⟩
abbrev main_call13_v11 : Ref sig .tc := ⟨.hbm, 303, rfl⟩
abbrev main_call13_c_3 : Ref sig .tc := ⟨.hbm, 304, rfl⟩
abbrev main_call13_v12 : Ref sig .tc := ⟨.hbm, 305, rfl⟩
abbrev main_call13_v13 : Ref sig .tc := ⟨.hbm, 306, rfl⟩
abbrev main_call13_v14 : Ref sig .tc := ⟨.hbm, 307, rfl⟩
abbrev main_call13_cst : Ref sig .tc := ⟨.hbm, 308, rfl⟩
abbrev main_call13_v15 : Ref sig .tc := ⟨.hbm, 309, rfl⟩
abbrev main_v87 : Ref sig .tc := ⟨.hbm, 310, rfl⟩
abbrev main_cst_51 : Ref sig .tc := ⟨.hbm, 311, rfl⟩
abbrev main_v88 : Ref sig .tc := ⟨.hbm, 312, rfl⟩
abbrev main_cst_52 : Ref sig .tc := ⟨.hbm, 313, rfl⟩
abbrev main_v89 : Ref sig .tc := ⟨.hbm, 314, rfl⟩
abbrev main_v90 : Ref sig .tc := ⟨.hbm, 315, rfl⟩
abbrev main_v91 : Ref sig .tc := ⟨.hbm, 316, rfl⟩
abbrev main_cst_53 : Ref sig .tc := ⟨.hbm, 317, rfl⟩
abbrev main_v92 : Ref sig .tc := ⟨.hbm, 318, rfl⟩
abbrev main_cst_54 : Ref sig .tc := ⟨.hbm, 319, rfl⟩
abbrev main_v93 : Ref sig .tc := ⟨.hbm, 320, rfl⟩
abbrev main_v94 : Ref sig .tc := ⟨.hbm, 321, rfl⟩
abbrev main_v95 : Ref sig .tc := ⟨.hbm, 322, rfl⟩
abbrev main_cst_55 : Ref sig .tc := ⟨.hbm, 323, rfl⟩
abbrev main_v96 : Ref sig .tc := ⟨.hbm, 324, rfl⟩
abbrev main_cst_56 : Ref sig .tc := ⟨.hbm, 325, rfl⟩
abbrev main_call14_v0 : Ref sig .tc := ⟨.hbm, 326, rfl⟩
abbrev main_call14_v1 : Ref sig .tc := ⟨.hbm, 327, rfl⟩
abbrev main_v97 : Ref sig .tc := ⟨.hbm, 328, rfl⟩
abbrev main_v98 : Ref sig .tc := ⟨.hbm, 329, rfl⟩
abbrev main_values_57 : Ref sig .tc := ⟨.hbm, 330, rfl⟩
abbrev main_indices_58 : Ref sig .tc := ⟨.hbm, 331, rfl⟩
abbrev main_v99 : Ref sig .tc := ⟨.hbm, 332, rfl⟩
abbrev main_call15_c : Ref sig .tc := ⟨.hbm, 333, rfl⟩
abbrev main_call15_v0 : Ref sig .tc := ⟨.hbm, 334, rfl⟩
abbrev main_call15_v1 : Ref sig .tc := ⟨.hbm, 335, rfl⟩
abbrev main_call15_c_0 : Ref sig .tc := ⟨.hbm, 336, rfl⟩
abbrev main_call15_v2 : Ref sig .tc := ⟨.hbm, 337, rfl⟩
abbrev main_call15_v3 : Ref sig .tc := ⟨.hbm, 338, rfl⟩
abbrev main_call15_v4 : Ref sig .tc := ⟨.hbm, 339, rfl⟩
abbrev main_call15_v5 : Ref sig .tc := ⟨.hbm, 340, rfl⟩
abbrev main_call15_c_1 : Ref sig .tc := ⟨.hbm, 341, rfl⟩
abbrev main_call15_c_2 : Ref sig .tc := ⟨.hbm, 342, rfl⟩
abbrev main_call15_v6 : Ref sig .tc := ⟨.hbm, 343, rfl⟩
abbrev main_call15_v7 : Ref sig .tc := ⟨.hbm, 344, rfl⟩
abbrev main_call15_v8 : Ref sig .tc := ⟨.hbm, 345, rfl⟩
abbrev main_call15_v9 : Ref sig .tc := ⟨.hbm, 346, rfl⟩
abbrev main_call15_v10 : Ref sig .tc := ⟨.hbm, 347, rfl⟩
abbrev main_call15_v11 : Ref sig .tc := ⟨.hbm, 348, rfl⟩
abbrev main_call15_c_3 : Ref sig .tc := ⟨.hbm, 349, rfl⟩
abbrev main_call15_v12 : Ref sig .tc := ⟨.hbm, 350, rfl⟩
abbrev main_call15_v13 : Ref sig .tc := ⟨.hbm, 351, rfl⟩
abbrev main_call15_v14 : Ref sig .tc := ⟨.hbm, 352, rfl⟩
abbrev main_call15_cst : Ref sig .tc := ⟨.hbm, 353, rfl⟩
abbrev main_call15_v15 : Ref sig .tc := ⟨.hbm, 354, rfl⟩
abbrev main_v100 : Ref sig .tc := ⟨.hbm, 355, rfl⟩
abbrev main_cst_59 : Ref sig .tc := ⟨.hbm, 356, rfl⟩
abbrev main_v101 : Ref sig .tc := ⟨.hbm, 357, rfl⟩
abbrev main_cst_60 : Ref sig .tc := ⟨.hbm, 358, rfl⟩
abbrev main_v102 : Ref sig .tc := ⟨.hbm, 359, rfl⟩
abbrev main_v103 : Ref sig .tc := ⟨.hbm, 360, rfl⟩
abbrev main_v104 : Ref sig .tc := ⟨.hbm, 361, rfl⟩

abbrev nD : Nat := 1
abbrev τ : Topo := Topo.v7x

variable {F : FTy → Type} [FloatOps F]
-- ==== Proof.TopTwo.lean ====
module
public import Mathlib.Data.EReal.Basic
public import Mathlib.Data.Fintype.Basic
public import Mathlib.Order.Basic
public import Idealize.ShloMosaic.Lib.SortFacts

/-!
# The two leading positions of a finite family

`First s i`: `i` is the first position at which `s` is largest. `Second s i k`: `k` is the first position
at which `s` is largest among the positions other than `i`. Both are unique, both depend only on how the
values compare, and the stable descending sort puts them at its first two places.
-/

@[expose] public section

namespace Cert.TopTwo
open Idealize.ShloMosaic

variable {n : Nat} {α : Type} [LinearOrder α]

/-- `i` is the first position where `s` is largest. -/
def First (s : Fin n → α) (i : Fin n) : Prop := (∀ j, s j ≤ s i) ∧ ∀ j, j < i → s j < s i

/-- `k` is the first position, `i` left out, where `s` is largest. -/
def Second (s : Fin n → α) (i k : Fin n) : Prop :=
  k ≠ i ∧ (∀ j, j ≠ i → s j ≤ s k) ∧ ∀ j, j ≠ i → j < k → s j < s k

/-- There is one first position. -/
theorem First.unique {s : Fin n → α} {i i' : Fin n} (h : First s i) (h' : First s i') : i = i' := by
  rcases lt_trichotomy i i' with hl | he | hl
  · exact absurd (h.1 i') (not_le.mpr (h'.2 i hl))
  · exact he
  · exact absurd (h'.1 i) (not_le.mpr (h.2 i' hl))

/-- There is one second position. -/
theorem Second.unique {s : Fin n → α} {i k k' : Fin n} (h : Second s i k) (h' : Second s i k') : k = k' := by
  rcases lt_trichotomy k k' with hl | he | hl
  · exact absurd (h.2.1 k' h'.1) (not_le.mpr (h'.2.2 k h.1 hl))
  · exact he
  · exact absurd (h'.2.1 k h.1) (not_le.mpr (h.2.2 k' h'.1 hl))

/-- Families that compare alike have the same first position. -/
theorem First.congr {β : Type} [LinearOrder β] {s : Fin n → α} {s' : Fin n → β}
    (hs : ∀ j k, s j ≤ s k ↔ s' j ≤ s' k) {i : Fin n} (h : First s i) : First s' i := by
  refine ⟨fun j => (hs j i).mp (h.1 j), fun j hj => ?_⟩
  have := h.2 j hj
  rw [← not_le] at this ⊢
  exact fun hc => this ((hs i j).mpr hc)

/-- Families that compare alike have the same second position. -/
theorem Second.congr {β : Type} [LinearOrder β] {s : Fin n → α} {s' : Fin n → β}
    (hs : ∀ j k, s j ≤ s k ↔ s' j ≤ s' k) {i k : Fin n} (h : Second s i k) : Second s' i k := by
  refine ⟨h.1, fun j hj => (hs j k).mp (h.2.1 j hj), fun j hj hk => ?_⟩
  have := h.2.2 j hj hk
  rw [← not_le] at this ⊢
  exact fun hc => this ((hs k j).mpr hc)

/-- Lowering the first position below every other value makes the second position the first. -/
theorem second_of_first_masked {s s' : Fin n → α} {i k : Fin n} (hi : s' i < s' k)
    (hs : ∀ j, j ≠ i → s' j = s j) (h : First s' k) : Second s i k := by
  have hk : k ≠ i := fun e => by rw [e] at hi; exact lt_irrefl _ hi
  refine ⟨hk, fun j hj => ?_, fun j hj hl => ?_⟩
  · rw [← hs j hj, ← hs k hk]; exact h.1 j
  · rw [← hs j hj, ← hs k hk]; exact h.2 j hl

/-! ## The stable sort's order -/

section sort
variable (s : Fin n → α)

/-- `b` goes before `c`: a larger value, or the same value at a lower position. -/
def Goes (b c : Fin n) : Prop := s c < s b ∨ (s b = s c ∧ b < c)

variable {s} in
theorem Goes.trans {a b c : Fin n} (h : Goes s a b) (h' : Goes s b c) : Goes s a c := by
  rcases h with h | ⟨h, l⟩ <;> rcases h' with h' | ⟨h', l'⟩
  · exact Or.inl (h'.trans h)
  · exact Or.inl (h' ▸ h)
  · exact Or.inl (h ▸ h')
  · exact Or.inr ⟨h.trans h', l.trans l'⟩

/-- Inserting a position lower than all of an ordered list keeps the list ordered. -/
theorem pairwise_insertBefore_goes {R : Fin n → Fin n → Bool} (hR : ∀ a b, R a b = true ↔ s b < s a)
    (a : Fin n) (l : List (Fin n)) (ha : ∀ b ∈ l, a < b) (hl : l.Pairwise (Goes s)) :
    (insertBefore R a l).Pairwise (Goes s) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore R a l).mem_iff.mp hc) with rfl | hc'
      · exact Or.inl ((hR b c).mp h)
      · exact hl.1 c hc'
    · rename_i h
      have hb : Goes s a b := by
        have h1 : s b ≤ s a := not_lt.mp fun hc => h ((hR b a).mpr hc)
        rcases h1.lt_or_eq with h2 | h2
        · exact Or.inl h2
        · exact Or.inr ⟨h2.symm, ha b List.mem_cons_self⟩
      refine List.pairwise_cons.mpr ⟨fun c hc => ?_, List.pairwise_cons.mpr hl⟩
      rcases List.mem_cons.mp hc with rfl | hc'
      · exact hb
      · exact hb.trans (hl.1 c hc')

/-- The stable descending sort of an increasing list of positions is ordered. -/
theorem pairwise_stableSort_goes {R : Fin n → Fin n → Bool} (hR : ∀ a b, R a b = true ↔ s b < s a)
    (l : List (Fin n)) (hl : l.Pairwise (· < ·)) : (stableSort R l).Pairwise (Goes s) := by
  induction l with
  | nil => exact List.Pairwise.nil
  | cons a l ih =>
    rw [List.pairwise_cons] at hl
    unfold stableSort
    exact pairwise_insertBefore_goes s hR a _ (fun b hb => hl.1 b ((perm_stableSort R l).mem_iff.mp hb)) (ih hl.2)

/-- An earlier place of the stable descending sort holds a position that goes before the later place's. -/
theorem sortedFrom_goes {R : Fin n → Fin n → Bool} (hR : ∀ a b, R a b = true ↔ s b < s a) (i j : Fin n)
    (hij : i < j) : Goes s (sortedFrom R i) (sortedFrom R j) := by
  have hp : ∀ a b : Fin (sortPositions n R).length, a < b →
      Goes s ((sortPositions n R).get a) ((sortPositions n R).get b) :=
    List.pairwise_iff_get.mp (pairwise_stableSort_goes s hR _ (List.pairwise_lt_finRange n))
  unfold sortedFrom
  exact hp _ _ (by simp only [Fin.lt_def, Fin.val_cast]; exact hij)

end sort

/-- The stable descending sort's first place holds the first position. -/
theorem first_sortedFrom (s : Fin 8 → α) {R : Fin 8 → Fin 8 → Bool} (hR : ∀ a b, R a b = true ↔ s b < s a) :
    First s (sortedFrom R 0) := by
  have key : ∀ j, j ≠ sortedFrom R 0 → Goes s (sortedFrom R 0) j := by
    intro j hj
    obtain ⟨k, rfl⟩ := sortedFrom_surjective R j
    exact sortedFrom_goes s hR 0 k (Fin.pos_of_ne_zero fun e => hj (by rw [e]))
  refine ⟨fun j => ?_, fun j hj => ?_⟩
  · by_cases e : j = sortedFrom R 0
    · rw [← e]
    · rcases key j e with h | h
      · exact h.le
      · exact h.1.ge
  · rcases key j hj.ne with h | h
    · exact h
    · exact absurd h.2 hj.asymm

/-- The stable descending sort's next place holds the second position. -/
theorem second_sortedFrom (s : Fin 8 → α) {R : Fin 8 → Fin 8 → Bool} (hR : ∀ a b, R a b = true ↔ s b < s a) :
    Second s (sortedFrom R 0) (sortedFrom R 1) := by
  have hne : sortedFrom R 1 ≠ sortedFrom R 0 := fun e => absurd (sortedFrom_injective R e) (by decide)
  have key : ∀ j, j ≠ sortedFrom R 0 → j ≠ sortedFrom R 1 → Goes s (sortedFrom R 1) j := by
    intro j h0 h1
    obtain ⟨k, rfl⟩ := sortedFrom_surjective R j
    refine sortedFrom_goes s hR 1 k ?_
    have e0 : k ≠ 0 := fun e => h0 (by rw [e])
    have e1 : k ≠ 1 := fun e => h1 (by rw [e])
    omega
  refine ⟨hne, fun j h0 => ?_, fun j h0 hj => ?_⟩
  · by_cases e : j = sortedFrom R 1
    · rw [← e]
    · rcases key j h0 e with h | h
      · exact h.le
      · exact h.1.ge
  · rcases key j h0 hj.ne with h | h
    · exact h
    · exact absurd h.2 hj.asymm

end Cert.TopTwo
-- ==== Proof.Arith.lean ====
module
public import Idealize.ShloMosaic.PureOps.Ideal
public import Idealize.ShloMosaic.Lib.Pointwise
public import proofs.«01_k».proof.Proof.TopTwo

/-!
# The constants and the arithmetic of the comparison

The kernel leaves out the division by sixteen and the square root: its scores are 256 times the squares of the
reference's, and its weight carries both divisions. Over the extended reals neither changes anything.
-/

@[expose] public section

namespace Cert.Arith
open Idealize.ShloMosaic

/-! ## The constants -/

theorem ofBits_neg_inf : Ideal.ofBits .f32 0xFF800000#32 = (⊥ : EReal) := by simp [Ideal.ofBits, Ideal.ieee]

theorem ofBits_neg_one : Ideal.ofBits .f32 0xBF800000#32 = ((-1 : ℝ) : EReal) := by
  simp [Ideal.ofBits, Ideal.ieee, -EReal.coe_mul]; norm_num

theorem ofBits_sixteen : Ideal.ofBits .f32 0x41800000#32 = ((16 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_weight : Ideal.ofBits .f32 0x3D000000#32 = ((1 / 32 : ℝ) : EReal) := by
  simp [Ideal.ofBits, Ideal.ieee, -EReal.coe_mul]; norm_num

/-- The reference's clip. -/
noncomputable def eps : ℝ := 8796093 * (2 : ℝ) ^ (-43 : Int)

theorem eps_pos : 0 < eps := by unfold eps; positivity

theorem ofBits_eps : Ideal.ofBits .f32 0x358637BD#32 = (eps : EReal) := by
  unfold eps
  simp [Ideal.ofBits, Ideal.ieee, -EReal.coe_mul]

/-- The kernel's clip is 256 times the reference's. -/
theorem ofBits_eps256 : Ideal.ofBits .f32 0x398637BD#32 = ((eps * 256 : ℝ) : EReal) := by
  unfold eps
  simp [Ideal.ofBits, Ideal.ieee, -EReal.coe_mul]; norm_num

/-! ## Scaling by a positive real -/

theorem sum_scale {ι : Type} (S : Finset ι) (f : ι → EReal) (w : ℝ) (hw : 0 ≤ w) :
    ∑ i ∈ S, f i * (w : EReal) = (∑ i ∈ S, f i) * (w : EReal) := by
  classical
  induction S using Finset.induction_on with
  | empty => simp
  | insert a S ha ih =>
    rw [Finset.sum_insert ha, Finset.sum_insert ha, ih,
      EReal.right_distrib_of_nonneg_of_ne_top (by exact_mod_cast hw) (EReal.coe_ne_top w)]

theorem scale_mono (w : ℝ) (hw : 0 ≤ w) {x y : EReal} (h : x ≤ y) : x * (w : EReal) ≤ y * (w : EReal) :=
  mul_le_mul_of_nonneg_right h (by exact_mod_cast hw)

theorem scale_cancel (w : ℝ) (hw : 0 < w) (x : EReal) : x * (w : EReal) * ((w⁻¹ : ℝ) : EReal) = x := by
  rw [mul_assoc, ← EReal.coe_mul, mul_inv_cancel₀ hw.ne', EReal.coe_one, mul_one]

theorem scale_le (w : ℝ) (hw : 0 < w) (x y : EReal) : x * (w : EReal) ≤ y * (w : EReal) ↔ x ≤ y := by
  refine ⟨fun h => ?_, scale_mono w hw.le⟩
  have := scale_mono w⁻¹ (inv_nonneg.mpr hw.le) h
  rwa [scale_cancel w hw, scale_cancel w hw] at this

theorem scale_max (w : ℝ) (hw : 0 < w) (x y : EReal) :
    max (x * (w : EReal)) (y * (w : EReal)) = max x y * (w : EReal) := by
  rcases le_total x y with h | h
  · rw [max_eq_right h, max_eq_right (scale_mono w hw.le h)]
  · rw [max_eq_left h, max_eq_left (scale_mono w hw.le h)]

/-- Division by a positive real is scaling by its inverse. -/
theorem div_real (x : EReal) (w : ℝ) (hw : 0 < w) : Ideal.div x (w : EReal) = x * ((w⁻¹ : ℝ) : EReal) := by
  unfold Ideal.div
  rw [if_neg (by exact_mod_cast hw.ne'), EReal.coe_inv]

theorem sqrt_top : Ideal.sqrt ⊤ = ⊤ := rfl

theorem sqrt_real (r : ℝ) (hr : 0 ≤ r) : Ideal.sqrt (r : EReal) = (Real.sqrt r : EReal) :=
  if_neg (not_lt.mpr hr)

/-- The square root compares as its argument does, from zero on. -/
theorem sqrt_le {x y : EReal} (hx : 0 ≤ x) (hy : 0 ≤ y) : Ideal.sqrt x ≤ Ideal.sqrt y ↔ x ≤ y := by
  induction x with
  | bot => exact absurd hx (by simp)
  | top =>
    induction y with
    | bot => exact absurd hy (by simp)
    | top => simp
    | coe s => rw [sqrt_top, sqrt_real s (by exact_mod_cast hy)]; simp
  | coe r =>
    have hr : 0 ≤ r := by exact_mod_cast hx
    induction y with
    | bot => exact absurd hy (by simp)
    | top => rw [sqrt_top]; simp
    | coe s =>
      have hs : 0 ≤ s := by exact_mod_cast hy
      rw [sqrt_real r hr, sqrt_real s hs, EReal.coe_le_coe_iff, EReal.coe_le_coe_iff]
      exact Real.sqrt_le_sqrt_iff hs

/-! ## The scores and the weighted sums -/

section scores
variable {ι : Type} [Fintype ι]

/-- The reference's score of a frame with sums `g`. -/
noncomputable def refScore (g : ι → EReal) : EReal :=
  Ideal.sqrt (max (Ideal.ofBits .f32 0x358637BD#32)
    (∑ c, Ideal.div (g c) (Ideal.ofBits .f32 0x41800000#32) * Ideal.div (g c) (Ideal.ofBits .f32 0x41800000#32)))

/-- The kernel's score of a frame with sums `g`. -/
noncomputable def kerScore (g : ι → EReal) : EReal := max (∑ c, g c * g c) (Ideal.ofBits .f32 0x398637BD#32)

/-- The reference's score is the square root of the kernel's over 256. -/
theorem refScore_eq (g : ι → EReal) : refScore g = Ideal.sqrt (kerScore g * ((256⁻¹ : ℝ) : EReal)) := by
  unfold refScore kerScore
  have hsq : ∀ c, Ideal.div (g c) (Ideal.ofBits .f32 0x41800000#32) * Ideal.div (g c) (Ideal.ofBits .f32 0x41800000#32)
      = g c * g c * ((256⁻¹ : ℝ) : EReal) := by
    intro c
    rw [ofBits_sixteen, div_real _ _ (by norm_num), mul_mul_mul_comm, ← EReal.coe_mul]
    congr 2
    norm_num
  rw [Finset.sum_congr rfl fun c _ => hsq c, sum_scale _ _ _ (by norm_num), ← scale_max _ (by norm_num), max_comm]
  congr 2
  rw [ofBits_eps, ofBits_eps256, ← EReal.coe_mul]
  congr 1
  ring

theorem kerScore_pos (g : ι → EReal) : (0 : EReal) < kerScore g :=
  lt_of_lt_of_le (by rw [ofBits_eps256]; exact_mod_cast mul_pos eps_pos (by norm_num)) (le_max_right _ _)

/-- The two scores compare alike. -/
theorem scores_alike (g h : ι → EReal) : refScore g ≤ refScore h ↔ kerScore g ≤ kerScore h := by
  have hn : ∀ g : ι → EReal, 0 ≤ kerScore g * ((256⁻¹ : ℝ) : EReal) := fun g =>
    mul_nonneg (kerScore_pos g).le (by exact_mod_cast (by norm_num : (0 : ℝ) ≤ 256⁻¹))
  rw [refScore_eq, refScore_eq, sqrt_le (hn g) (hn h), scale_le _ (by norm_num)]

end scores

/-- The weighted sum over the frames is half the sum of the two taken frames' means. -/
theorem weighted_sum (g : Fin 8 → EReal) (p q : Fin 8) (hpq : q ≠ p) :
    ∑ t : Fin 8, g t * (if t = p ∨ t = q then Ideal.ofBits .f32 0x3D000000#32 else 0) =
      Ideal.div (Ideal.div (g p) (Ideal.ofBits .f32 0x41800000#32) + Ideal.div (g q) (Ideal.ofBits .f32 0x41800000#32))
        (Ideal.ofBits .f32 0x40000000#32) := by
  have h0 : ∀ t : Fin 8, g t * (if t = p ∨ t = q then Ideal.ofBits .f32 0x3D000000#32 else 0)
      = if t ∈ ({p, q} : Finset (Fin 8)) then g t * ((1 / 32 : ℝ) : EReal) else 0 := by
    intro t
    rw [ofBits_weight]
    simp only [Finset.mem_insert, Finset.mem_singleton]
    by_cases h : t = p ∨ t = q
    · rw [if_pos h, if_pos h]
    · rw [if_neg h, if_neg h, mul_zero]
  rw [Finset.sum_congr rfl fun t _ => h0 t, Finset.sum_ite_mem, Finset.univ_inter, Finset.sum_pair hpq.symm,
    ofBits_sixteen, ofBits_two, div_real _ _ (by norm_num), div_real _ _ (by norm_num), div_real _ _ (by norm_num),
    EReal.right_distrib_of_nonneg_of_ne_top (by exact_mod_cast (by norm_num : (0 : ℝ) ≤ 2⁻¹)) (EReal.coe_ne_top _),
    mul_assoc, mul_assoc, ← EReal.coe_mul]
  congr 3 <;> norm_num

end Cert.Arith
-- ==== Proof.Spec.lean ====
module
public import proofs.«01_k».proof.Proof.Arith

/-!
# What both programs compute

Over the extended reals: for a batch element and a stripe, every frame has a sum per channel; two frames are
taken, those with the two largest scores (the lower frame first where scores are equal); the result is half the
sum of their means.
-/

@[expose] public section

noncomputable section

namespace Cert.Spec
open Idealize.ShloMosaic

/-- The places of the frames in descending order of their reference scores. -/
def place (G : Fin 2048 → Fin 8 → EReal) (k : Fin 8) : Fin 8 :=
  sortedFrom (fun a b : Fin 8 => decide (Arith.refScore (fun c => G c b) < Arith.refScore (fun c => G c a))) k

/-- The result of a stripe with frame sums `G`, at a channel. -/
def result (G : Fin 2048 → Fin 8 → EReal) (c : Fin 2048) : EReal :=
  Ideal.div (Ideal.div (G c (place G 0)) (Ideal.ofBits .f32 0x41800000#32)
    + Ideal.div (G c (place G 1)) (Ideal.ofBits .f32 0x41800000#32)) (Ideal.ofBits .f32 0x40000000#32)

/-- Place 0 is the first position of the largest reference score. -/
theorem first_ref (G : Fin 2048 → Fin 8 → EReal) :
    TopTwo.First (fun t => Arith.refScore fun c => G c t) (place G 0) :=
  TopTwo.first_sortedFrom (fun t => Arith.refScore fun c => G c t) fun _ _ => decide_eq_true_iff

/-- Place 1 is the first position of the largest reference score among the others. -/
theorem second_ref (G : Fin 2048 → Fin 8 → EReal) :
    TopTwo.Second (fun t => Arith.refScore fun c => G c t) (place G 0) (place G 1) :=
  TopTwo.second_sortedFrom (fun t => Arith.refScore fun c => G c t) fun _ _ => decide_eq_true_iff

/-- The first place is the first position of the kernel's scores. -/
theorem first_ker (G : Fin 2048 → Fin 8 → EReal) :
    TopTwo.First (fun t => Arith.kerScore fun c => G c t) (place G 0) :=
  (first_ref G).congr fun _ _ => Arith.scores_alike _ _

/-- The second place is the first position of the kernel's scores once the first is replaced by minus one. -/
theorem second_ker (G : Fin 2048 → Fin 8 → EReal) :
    TopTwo.First (fun t => if t = place G 0 then Ideal.ofBits .f32 0xBF800000#32 else Arith.kerScore fun c => G c t)
      (place G 1) := by
  have h : TopTwo.Second (fun t => Arith.kerScore fun c => G c t) (place G 0) (place G 1) :=
    (second_ref G).congr fun _ _ => Arith.scores_alike _ _
  have hlow : ∀ g : Fin 2048 → EReal, Ideal.ofBits .f32 0xBF800000#32 < Arith.kerScore g := fun g =>
    lt_trans (by rw [Arith.ofBits_neg_one]; exact_mod_cast (by norm_num : (-1 : ℝ) < 0)) (Arith.kerScore_pos g)
  refine ⟨fun j => ?_, fun j hj => ?_⟩
  · beta_reduce
    rw [if_neg h.1]
    by_cases e : j = place G 0
    · rw [if_pos e]; exact (hlow _).le
    · rw [if_neg e]; exact h.2.1 j e
  · beta_reduce
    rw [if_neg h.1]
    by_cases e : j = place G 0
    · rw [if_pos e]; exact hlow _
    · rw [if_neg e]; exact h.2.2 j e hj

/-- The kernel's weighted sum over the frames is the result. -/
theorem weighted_eq (G : Fin 2048 → Fin 8 → EReal) (c : Fin 2048) :
    ∑ t : Fin 8, G c t * (if t = place G 0 ∨ t = place G 1 then Ideal.ofBits .f32 0x3D000000#32 else 0) = result G c :=
  Arith.weighted_sum (G c) (place G 0) (place G 1) (second_ref G).1

/-- The frame sums of batch element `n`, stripe `s`: over the stripe's two rows and eight columns. -/
def frameSum (x : Fin 32 → Fin 2048 → Fin 8 → Fin 16 → Fin 8 → EReal) (n : Fin 32) (s : Fin 8) (c : Fin 2048) (t : Fin 8) : EReal :=
  ∑ a : Fin 2, ∑ w : Fin 8, x n c t ⟨2 * s.val + a.val, by omega⟩ w

end Cert.Spec
end
-- ==== Proof.Element.lean ====
module
public import proofs.«01_k».proof.Proof.Gen.KernelIdeal.Frame
public import proofs.«01_k».proof.Proof.Spec
public import Idealize.ShloMosaic.Lib.Pointwise

/-!
# What the kernel computes for one batch element

A block holds two batch elements and the kernel treats them alike, and it treats the four channel groups
alike. The stored values are named once, over the rows of one batch element.
-/

@[expose] public section

set_option maxRecDepth 16384

noncomputable section

namespace Cert.Element
open Cert.KernelIdeal Cert.KernelIdeal.Gen Idealize.ShloMosaic

variable {F : FTy → Type} [FloatOps F]

/-- The frame sums of one channel group: row `8 * t + s` is the sum over stripe `s` of frame `t`. -/
def sums (X : FVec F S1x1024x512 .f32) : FVec F S64x512 .f32 := k0_pay4 X

/-- The clipped squared norms, a row per stripe and a column per frame. -/
def scores (X0 X1 X2 X3 : FVec F S1x1024x512 .f32) : FVec F S8x8 .f32 := k0_pay10 (k0_pay7 X0 X1 X2) (k0_pay9 X3)

/-- The weight of each row of the frame sums. -/
def weights (X0 X1 X2 X3 : FVec F S1x1024x512 .f32) : FVec F S64x1 .f32 :=
  k0_pay16 (k0_pay12 (k0_pay7 X0 X1 X2) (k0_pay9 X3)) (k0_pay13 (k0_pay7 X0 X1 X2) (k0_pay9 X3))
    (iota .tc S64x1 32 [0] iota_S64x1_d0_w32) 8#32 k0_pay14 k0_pay15 0#32

/-- The stored value: the frame sums times the weights, summed over the frames. -/
def stored (f : FVec F S64x512 .f32) (w : FVec F S64x1 .f32) : FVec F S1x8x512 .f32 :=
  shapeCast S1x8x512 (multiReduction .add [0] S8x512
    (shapeCast S8x8x512 (mulf f (broadcastTo S64x512 w broadcasts_S64x1_S64x512)) shapeCasts_S64x512_S8x8x512)
    0x00000000#32 reduces_S8x8x512_S8x512 (.inl rfl) rfl) shapeCasts_S8x512_S1x8x512

/-- A block's output: both batch elements' stored values, for every channel group. -/
theorem out_eq (x0 x1 x2 x3 : Vec F S2x1024x512 .f32) :
    out0_4 x0 x1 x2 x3 =
      let w0 := weights (View.ld x0 r0_0) (View.ld x1 r0_0) (View.ld x2 r0_0) (View.ld x3 r0_0)
      let w1 := weights (View.ld x0 r0_5) (View.ld x1 r0_5) (View.ld x2 r0_5) (View.ld x3 r0_5)
      View.canon [⟨r0_9, stored (sums (View.ld x3 r0_5)) w1⟩, ⟨r0_8, stored (sums (View.ld x2 r0_5)) w1⟩,
        ⟨r0_7, stored (sums (View.ld x1 r0_5)) w1⟩, ⟨r0_6, stored (sums (View.ld x0 r0_5)) w1⟩,
        ⟨r0_4, stored (sums (View.ld x3 r0_0)) w0⟩, ⟨r0_3, stored (sums (View.ld x2 r0_0)) w0⟩,
        ⟨r0_2, stored (sums (View.ld x1 r0_0)) w0⟩, ⟨r0_1, stored (sums (View.ld x0 r0_0)) w0⟩] := rfl

/-- A column of 64 values as an 8 by 8 square, a column of the square per eight values. -/
def square (v : FVec F S64x1 .f32) : FVec F S8x8 .f32 :=
  concatenate S8x8 1
    [⟨S8x1, extractStridedSlice S8x1 ![0, 0] v slices_S64x1_o0_0_S8x1⟩, ⟨S8x1, extractStridedSlice S8x1 ![8, 0] v slices_S64x1_o8_0_S8x1⟩,
     ⟨S8x1, extractStridedSlice S8x1 ![16, 0] v slices_S64x1_o16_0_S8x1⟩, ⟨S8x1, extractStridedSlice S8x1 ![24, 0] v slices_S64x1_o24_0_S8x1⟩,
     ⟨S8x1, extractStridedSlice S8x1 ![32, 0] v slices_S64x1_o32_0_S8x1⟩, ⟨S8x1, extractStridedSlice S8x1 ![40, 0] v slices_S64x1_o40_0_S8x1⟩,
     ⟨S8x1, extractStridedSlice S8x1 ![48, 0] v slices_S64x1_o48_0_S8x1⟩, ⟨S8x1, extractStridedSlice S8x1 ![56, 0] v slices_S64x1_o56_0_S8x1⟩]
    concatenates_S8x1_S8x1_S8x1_S8x1_S8x1_S8x1_S8x1_S8x1_S8x8_d1

/-- Eight copies of a column of eight, one above the other. -/
def copies (v : IVec S8x1 32) : IVec S64x1 32 :=
  concatenate S64x1 0 [⟨S8x1, v⟩, ⟨S8x1, v⟩, ⟨S8x1, v⟩, ⟨S8x1, v⟩, ⟨S8x1, v⟩, ⟨S8x1, v⟩, ⟨S8x1, v⟩, ⟨S8x1, v⟩]
    concatenates_S8x1_S8x1_S8x1_S8x1_S8x1_S8x1_S8x1_S8x1_S64x1_d0

/-- The squared norm over one channel group, as a column. -/
def norms (X : FVec F S1x1024x512 .f32) : FVec F S64x1 .f32 :=
  shapeCast S64x1 (multiReduction .add [1] S64 (mulf (sums X) (sums X)) 0x00000000#32 reduces_S64x512_S64 (.inl rfl) rfl)
    shapeCasts_S64_S64x1

theorem scores_eq (X0 X1 X2 X3 : FVec F S1x1024x512 .f32) :
    scores X0 X1 X2 X3 = maximumf (square (addf (addf (addf (norms X0) (norms X1)) (norms X2)) (norms X3)))
      (broadcast S8x8 (Scalar.ofBits .f32 0x398637BD#32)) := rfl

/-- The least position, along each row, where the row's largest value stands. -/
def leading (v : FVec F S8x8 .f32) : IVec S8x1 32 :=
  shapeCast S8x1 (multiReductionI .minsi [1] S8
    (select (cmpf .oeq v (broadcastTo S8x8 (shapeCast S8x1
        (multiReduction .maximumf [1] S8 v 0xFF800000#32 reduces_S8x8_S8 (.inl rfl) rfl) shapeCasts_S8_S8x1) broadcasts_S8x1_S8x8))
      (iota .tc S8x8 32 [1] iota_S8x8_d1_w32) (broadcast S8x8 8#32))
    2147483647#32 reduces_S8x8_S8 rfl) shapeCasts_S8_S8x1

/-- The rows with the values at the given positions replaced by minus one. -/
def masked (i : IVec S8x1 32) (v : FVec F S8x8 .f32) : FVec F S8x8 .f32 :=
  select (cmpi .eq (iota .tc S8x8 32 [1] iota_S8x8_d1_w32) (broadcastTo S8x8 i broadcasts_S8x1_S8x8))
    (broadcast S8x8 (Scalar.ofBits .f32 0xBF800000#32)) v

/-- The weight of a row of the frame sums whose two taken frames are in the columns `p` and `q`. -/
def weigh (p q : IVec S64x1 32) : FVec F S64x1 .f32 :=
  k0_pay16 p q (iota .tc S64x1 32 [0] iota_S64x1_d0_w32) 8#32 k0_pay14 k0_pay15 0#32

theorem weights_eq (X0 X1 X2 X3 : FVec F S1x1024x512 .f32) :
    weights X0 X1 X2 X3 =
      weigh (copies (leading (scores X0 X1 X2 X3)))
        (copies (leading (masked (leading (scores X0 X1 X2 X3)) (scores X0 X1 X2 X3)))) := rfl

/-! ## Read at an index, over the extended reals -/

/-- A frame sum is the sum of its sixteen elements, paired. -/
theorem sums_apply (X : FVec Ideal S1x1024x512 .f32) (g : Fin 64) (c : Fin 512) :
    sums X (ix2 g c) = ∑ r : Fin 8, (X (ix3 (0 : Fin 1) (⟨g.val * 16 + r.val, by omega⟩ : Fin 1024) c)
      + X (ix3 (0 : Fin 1) (⟨g.val * 16 + (8 + r.val), by omega⟩ : Fin 1024) c)) := by
  unfold sums k0_pay4
  pointwise

/-- A stored value: the weighted sum over the frames. -/
theorem stored_apply (f : FVec Ideal S64x512 .f32) (w : FVec Ideal S64x1 .f32) (s : Fin 8) (c : Fin 512) :
    stored f w (ix3 (0 : Fin 1) s c) = ∑ t : Fin 8, f (ix2 (⟨t.val * 8 + s.val, by omega⟩ : Fin 64) c)
      * w (ix2 (⟨t.val * 8 + s.val, by omega⟩ : Fin 64) (0 : Fin 1)) := by
  unfold stored
  pointwise

/-- The square's entry. -/
theorem square_apply (v : FVec Ideal S64x1 .f32) (s t : Fin 8) :
    square v (ix2 s t) = v (ix2 (⟨t.val * 8 + s.val, by omega⟩ : Fin 64) (0 : Fin 1)) := by
  unfold square
  pointwise
  have ht := t.isLt
  split_ifs <;> (refine congrArg v ?_; rw [ix2_inj]; refine ⟨Fin.ext ?_, Subsingleton.elim _ _⟩; simp only; omega)

/-- A copy's entry. -/
theorem copies_apply (v : IVec S8x1 32) (s t : Fin 8) :
    copies v (ix2 (⟨t.val * 8 + s.val, by omega⟩ : Fin 64) (0 : Fin 1)) = v (ix2 s (0 : Fin 1)) := by
  unfold copies
  pointwise
  have hs := s.isLt
  have ht := t.isLt
  split_ifs <;> (refine congrArg v ?_; rw [ix2_inj]; refine ⟨Fin.ext ?_, Subsingleton.elim _ _⟩; simp only; omega)

/-- The squared norm over one channel group. -/
theorem norms_apply (X : FVec Ideal S1x1024x512 .f32) (g : Fin 64) :
    norms X (ix2 g (0 : Fin 1)) = ∑ c : Fin 512, sums X (ix2 g c) * sums X (ix2 g c) := by
  unfold norms
  pointwise

/-- The clipped squared norm of stripe `s`, frame `t`. -/
theorem scores_apply (X0 X1 X2 X3 : FVec Ideal S1x1024x512 .f32) (s t : Fin 8) :
    scores X0 X1 X2 X3 (ix2 s t) =
      max (norms X0 (ix2 (⟨t.val * 8 + s.val, by omega⟩ : Fin 64) (0 : Fin 1))
        + norms X1 (ix2 (⟨t.val * 8 + s.val, by omega⟩ : Fin 64) (0 : Fin 1))
        + norms X2 (ix2 (⟨t.val * 8 + s.val, by omega⟩ : Fin 64) (0 : Fin 1))
        + norms X3 (ix2 (⟨t.val * 8 + s.val, by omega⟩ : Fin 64) (0 : Fin 1))) (Ideal.ofBits .f32 0x398637BD#32) := by
  rw [scores_eq]
  pointwise
  rw [square_apply]
  pointwise

/-- A masked row's entry. -/
theorem masked_apply (i : IVec S8x1 32) (v : FVec Ideal S8x8 .f32) (s t p : Fin 8)
    (hp : i (ix2 s (0 : Fin 1)) = BitVec.ofNat 32 p.val) :
    masked i v (ix2 s t) = if t = p then Ideal.ofBits .f32 0xBF800000#32 else v (ix2 s t) := by
  have key : ∀ t p : Fin 8, IntOp.cmpi .eq (BitVec.ofNat 32 t.val) (BitVec.ofNat 32 p.val) = if t = p then 1#1 else 0#1 := by
    decide +kernel
  unfold masked
  pointwise
  rw [hp, key]
  by_cases h : t = p
  · rw [if_pos h, if_pos h]; rfl
  · rw [if_neg h, if_neg h]; rfl

/-- A fold whose operation keeps a member's value against every other member's and the initial one is that value. -/
theorem fold_eq_of_keeps {α : Type} (op : α → α → α) [Std.Commutative op] [Std.Associative op] (b : α) (f : Fin 8 → α) (p : Fin 8)
    (hb : op (f p) b = f p) (h : ∀ j, j ≠ p → op (f p) (f j) = f p) : Finset.univ.fold op b f = f p := by
  have key : ∀ S : Finset (Fin 8), p ∉ S → op (f p) (S.fold op b f) = f p := by
    intro S
    induction S using Finset.induction_on with
    | empty => intro _; rw [Finset.fold_empty]; exact hb
    | insert a S ha ih =>
      intro hS
      rw [Finset.mem_insert, not_or] at hS
      rw [Finset.fold_insert ha, ← Std.Associative.assoc (op := op), h a fun e => hS.1 e.symm]
      exact ih hS.2
  rw [← Finset.insert_erase (Finset.mem_univ p), Finset.fold_insert (Finset.notMem_erase p _)]
  exact key _ (Finset.notMem_erase p _)

/-- A row's leading position is the first one where the row is largest. -/
theorem leading_apply (v : FVec Ideal S8x8 .f32) (s p : Fin 8) (hp : TopTwo.First (fun t : Fin 8 => (v (ix2 s t) : EReal)) p) :
    leading v (ix2 s (0 : Fin 1)) = BitVec.ofNat 32 p.val := by
  have hmax : (Finset.univ : Finset (Fin 8)).fold max (Ideal.ofBits .f32 0xFF800000#32) (fun t : Fin 8 => (v (ix2 s t) : EReal))
      = v (ix2 s p) :=
    fold_eq_of_keeps max _ (fun t : Fin 8 => (v (ix2 s t) : EReal)) p (by rw [Arith.ofBits_neg_inf]; exact max_eq_left bot_le)
      (fun j _ => max_eq_left (hp.1 j))
  have kmin : ∀ p j : Fin 8, p ≤ j → IntOp.minsi (BitVec.ofNat 32 p.val) (BitVec.ofNat 32 j.val) = BitVec.ofNat 32 p.val := by
    decide +kernel
  have kmin8 : ∀ p : Fin 8, IntOp.minsi (BitVec.ofNat 32 p.val) 8#32 = BitVec.ofNat 32 p.val := by decide +kernel
  have kmin0 : ∀ p : Fin 8, IntOp.minsi (BitVec.ofNat 32 p.val) 2147483647#32 = BitVec.ofNat 32 p.val := by decide +kernel
  unfold leading
  pointwise
  rw [hmax]
  refine (fold_eq_of_keeps IntOp.minsi _ _ p ?_ ?_).trans (if_pos rfl)
  · rw [if_pos rfl]; exact kmin0 p
  · intro j hj
    rw [if_pos rfl]
    by_cases h : v (ix2 s j) = v (ix2 s p)
    · rw [if_pos h]
      refine kmin p j (not_lt.mp fun hl => ?_)
      exact absurd h (hp.2 j hl).ne
    · rw [if_neg h]; exact kmin8 p

/-- A row's weight. -/
theorem weigh_apply (a b : IVec S64x1 32) (s t p q : Fin 8)
    (hp : a (ix2 (⟨t.val * 8 + s.val, by omega⟩ : Fin 64) (0 : Fin 1)) = BitVec.ofNat 32 p.val)
    (hq : b (ix2 (⟨t.val * 8 + s.val, by omega⟩ : Fin 64) (0 : Fin 1)) = BitVec.ofNat 32 q.val) :
    (weigh a b : FVec Ideal S64x1 .f32) (ix2 (⟨t.val * 8 + s.val, by omega⟩ : Fin 64) (0 : Fin 1)) =
      if t = p ∨ t = q then Ideal.ofBits .f32 0x3D000000#32 else 0 := by
  have kdiv : ∀ s t : Fin 8, Scalar.select
            (IntOp.andi
              (IntOp.cmpi CmpIPredicate.ne
                (IntOp.subi (BitVec.setWidth 32 (IntOp.cmpi CmpIPredicate.sgt (BitVec.ofNat 32 (t.val * 8 + s.val)) 0#32))
                  (BitVec.setWidth 32 (IntOp.cmpi CmpIPredicate.slt (BitVec.ofNat 32 (t.val * 8 + s.val)) 0#32)))
                (Scalar.subi (Scalar.extui (Scalar.cmpi CmpIPredicate.sgt 8#32 0#32))
                  (Scalar.extui (Scalar.cmpi CmpIPredicate.slt 8#32 0#32))))
              (IntOp.cmpi CmpIPredicate.ne (IntOp.remsi ArithUnit.vector (BitVec.ofNat 32 (t.val * 8 + s.val)) 8#32) 0#32))
            (IntOp.subi (IntOp.divsi ArithUnit.vector (BitVec.ofNat 32 (t.val * 8 + s.val)) 8#32) 1#32)
            (IntOp.divsi ArithUnit.vector (BitVec.ofNat 32 (t.val * 8 + s.val)) 8#32) = BitVec.ofNat 32 t.val := by
    decide +kernel
  have key : ∀ t p q : Fin 8, IntOp.ori (IntOp.cmpi .eq (BitVec.ofNat 32 t.val) (BitVec.ofNat 32 p.val))
      (IntOp.cmpi .eq (BitVec.ofNat 32 t.val) (BitVec.ofNat 32 q.val)) = if t = p ∨ t = q then 1#1 else 0#1 := by
    decide +kernel
  unfold weigh k0_pay16 k0_pay14 k0_pay15
  pointwise
  rw [hp, hq, kdiv, key]
  by_cases h : t = p ∨ t = q
  · rw [if_pos h, if_pos h]; rfl
  · rw [if_neg h, if_neg h]; rfl

/-! ## One batch element -/

section element
variable (X0 X1 X2 X3 : FVec Ideal S1x1024x512 .f32) (s : Fin 8) (G : Fin 2048 → Fin 8 → EReal)

/-- `G` gathers stripe `s`'s frame sums from the four channel groups. -/
structure Gathers : Prop where
  h0 : ∀ (t : Fin 8) (c : Fin 512), sums X0 (ix2 (⟨t.val * 8 + s.val, by omega⟩ : Fin 64) c) = G ⟨0 * 512 + c.val, by omega⟩ t
  h1 : ∀ (t : Fin 8) (c : Fin 512), sums X1 (ix2 (⟨t.val * 8 + s.val, by omega⟩ : Fin 64) c) = G ⟨1 * 512 + c.val, by omega⟩ t
  h2 : ∀ (t : Fin 8) (c : Fin 512), sums X2 (ix2 (⟨t.val * 8 + s.val, by omega⟩ : Fin 64) c) = G ⟨2 * 512 + c.val, by omega⟩ t
  h3 : ∀ (t : Fin 8) (c : Fin 512), sums X3 (ix2 (⟨t.val * 8 + s.val, by omega⟩ : Fin 64) c) = G ⟨3 * 512 + c.val, by omega⟩ t

variable {X0 X1 X2 X3 s G}

/-- The score of frame `t` is the kernel's score of its frame sums over all the channels. -/
theorem Gathers.scores (h : Gathers X0 X1 X2 X3 s G) (t : Fin 8) :
    scores X0 X1 X2 X3 (ix2 s t) = Arith.kerScore fun c => G c t := by
  rw [scores_apply, norms_apply, norms_apply, norms_apply, norms_apply]
  unfold Arith.kerScore
  rw [Fin.sum_univ_tiles 4 512 rfl, Fin.sum_univ_four]
  congr 1
  refine congrArg₂ _ (congrArg₂ _ (congrArg₂ _ ?_ ?_) ?_) ?_
  · exact Finset.sum_congr rfl fun c _ => by rw [h.h0]; rfl
  · exact Finset.sum_congr rfl fun c _ => by rw [h.h1]; rfl
  · exact Finset.sum_congr rfl fun c _ => by rw [h.h2]; rfl
  · exact Finset.sum_congr rfl fun c _ => by rw [h.h3]; rfl

/-- The weight of stripe `s`, frame `t`. -/
theorem Gathers.weights (h : Gathers X0 X1 X2 X3 s G) (t : Fin 8) :
    weights X0 X1 X2 X3 (ix2 (⟨t.val * 8 + s.val, by omega⟩ : Fin 64) (0 : Fin 1)) =
      if t = Spec.place G 0 ∨ t = Spec.place G 1 then Ideal.ofBits .f32 0x3D000000#32 else 0 := by
  have hf : leading (Element.scores X0 X1 X2 X3) (ix2 s (0 : Fin 1)) = BitVec.ofNat 32 (Spec.place G 0).val := by
    refine leading_apply _ s _ ?_
    rw [funext h.scores]
    exact Spec.first_ker G
  rw [weights_eq]
  refine weigh_apply _ _ s t _ _ ((copies_apply _ s t).trans hf) ((copies_apply _ s t).trans (leading_apply _ s _ ?_))
  have : (fun t : Fin 8 => (masked (leading (Element.scores X0 X1 X2 X3)) (Element.scores X0 X1 X2 X3) (ix2 s t) : EReal))
      = fun t => if t = Spec.place G 0 then Ideal.ofBits .f32 0xBF800000#32 else Arith.kerScore fun c => G c t :=
    funext fun t => by rw [masked_apply _ _ s t _ hf, h.scores]
  rw [this]
  exact Spec.second_ker G

/-- A stored value of a channel group whose frame sums are `G`'s from channel `k` on. -/
theorem Gathers.stored (h : Gathers X0 X1 X2 X3 s G) (X : FVec Ideal S1x1024x512 .f32) (c : Fin 512) (d : Fin 2048)
    (hX : ∀ t : Fin 8, sums X (ix2 (⟨t.val * 8 + s.val, by omega⟩ : Fin 64) c) = G d t) :
    stored (sums X) (Element.weights X0 X1 X2 X3) (ix3 (0 : Fin 1) s c) = Spec.result G d := by
  rw [stored_apply, ← Spec.weighted_eq]
  exact Finset.sum_congr rfl fun t _ => by rw [hX, h.weights]

end element

end Cert.Element
end
-- ==== Proof.Block.lean ====
module
public import proofs.«01_k».proof.Proof.Element
public import Idealize.ShloMosaic.Lib.Pipeline.ValueKit
public import Idealize.ShloMosaic.Lib.Claim

/-!
# One block of the kernel's result

A grid point computes two batch elements. The block it leaves is, at every index, the result of the element's
stripe.
-/

@[expose] public section

set_option maxRecDepth 16384

noncomputable section

namespace Cert.Block
open Idealize.ShloMosaic Idealize.ShloMosaic.TcCoe Idealize.SL.Sem
open Cert.KernelIdeal Cert.KernelIdeal.Gen
open Cert.Element

/-- A stored piece at an index: channel group `k` of a batch element with frame sums `G`. -/
theorem piece {X0 X1 X2 X3 : FVec Ideal S1x1024x512 .f32} {G : Fin 8 → Fin 2048 → Fin 8 → EReal}
    (hG : ∀ s, Gathers X0 X1 X2 X3 s (G s)) (X : FVec Ideal S1x1024x512 .f32) (k : ℕ) (hk : k * 512 + 512 ≤ 2048)
    (hX : ∀ (s t : Fin 8) (c : Fin 512), sums X (ix2 (⟨t.val * 8 + s.val, by omega⟩ : Fin 64) c) = G s ⟨k * 512 + c.val, by omega⟩ t)
    (x : S1x8x512.Idx) (s : Fin 8) (d : Fin 2048) (hs : s.val = (x 1).val) (hd : d.val = k * 512 + (x 2).val) :
    stored (sums X) (weights X0 X1 X2 X3) x = Spec.result (G s) d := by
  obtain ⟨a, s', c, rfl⟩ : ∃ (a : Fin 1) (s' : Fin 8) (c : Fin 512), x = ix3 a s' c :=
    ⟨x 0, x 1, x 2, funext fun i => by fin_cases i <;> rfl⟩
  obtain rfl : s = s' := Fin.ext hs
  obtain rfl : a = 0 := Subsingleton.elim _ _
  refine (hG s).stored X c d fun t => ?_
  rw [hX]
  exact congrArg (fun e => G s e t) (Fin.ext hd.symm)

/-- The block a grid point leaves, from frame sums `G` of its two batch elements. -/
theorem out_apply (x0 x1 x2 x3 : Vec Ideal S2x1024x512 .f32) (G : Fin 2 → Fin 8 → Fin 2048 → Fin 8 → EReal)
    (hA : ∀ s, Gathers (View.ld x0 r0_0) (View.ld x1 r0_0) (View.ld x2 r0_0) (View.ld x3 r0_0) s (G 0 s))
    (hB : ∀ s, Gathers (View.ld x0 r0_5) (View.ld x1 r0_5) (View.ld x2 r0_5) (View.ld x3 r0_5) s (G 1 s))
    (b : Fin 2) (s : Fin 8) (c : Fin 2048) :
    out0_4 (F := Ideal) x0 x1 x2 x3 (ix3 b s c) = Spec.result (G b s) c := by
  have hb : ∀ k : Fin 2, b.val = k.val → G b = G k := fun k h => congrArg G (Fin.ext h)
  rw [out_eq]
  dsimp only
  canon_tiles x h
  all_goals
    have e0 : b.val = _ := h0
    have e1 : s.val = _ := h1
    have e2 : c.val = _ := h2
  case piece0 => rw [hb 1 (by change _ = 1; omega)]; exact piece hB _ 3 (by omega) (fun s => (hB s).h3) x s c (by omega) (by omega)
  case piece1 => rw [hb 1 (by change _ = 1; omega)]; exact piece hB _ 2 (by omega) (fun s => (hB s).h2) x s c (by omega) (by omega)
  case piece2 => rw [hb 1 (by change _ = 1; omega)]; exact piece hB _ 1 (by omega) (fun s => (hB s).h1) x s c (by omega) (by omega)
  case piece3 => rw [hb 1 (by change _ = 1; omega)]; exact piece hB _ 0 (by omega) (fun s => (hB s).h0) x s c (by omega) (by omega)
  case piece4 => rw [hb 0 (by change _ = 0; omega)]; exact piece hA _ 3 (by omega) (fun s => (hA s).h3) x s c (by omega) (by omega)
  case piece5 => rw [hb 0 (by change _ = 0; omega)]; exact piece hA _ 2 (by omega) (fun s => (hA s).h2) x s c (by omega) (by omega)
  case piece6 => rw [hb 0 (by change _ = 0; omega)]; exact piece hA _ 1 (by omega) (fun s => (hA s).h1) x s c (by omega) (by omega)
  case piece7 => rw [hb 0 (by change _ = 0; omega)]; exact piece hA _ 0 (by omega) (fun s => (hA s).h0) x s c (by omega) (by omega)

/-- The array the grid reads, at an index: the argument transposed and reshaped. -/
theorem entry_apply (x : FVec Ideal S32x2048x8x16x8 .f32) (n : Fin 32) (c : Fin 2048) (t : Fin 8) (q : Fin 16) (w : Fin 8) :
    shapeCast S32x1024x2048 (transpose S32x8x16x8x2048 [0, 2, 3, 4, 1] x transposes_S32x2048x8x16x8_S32x8x16x8x2048_0_2_3_4_1)
      shapeCasts_S32x8x16x8x2048_S32x1024x2048 (ix3 n (⟨(t.val * 16 + q.val) * 8 + w.val, by omega⟩ : Fin 1024) c) = x (ix5 n c t q w) := by
  pointwise

/-- A channel group's frame sums are the argument's, when the group's rows are read off the argument. -/
theorem sums_frame (x : Fin 32 → Fin 2048 → Fin 8 → Fin 16 → Fin 8 → EReal) (X : FVec Ideal S1x1024x512 .f32) (n : Fin 32)
    (c : Fin 512) (d : Fin 2048)
    (hX : ∀ (t : Fin 8) (q : Fin 16) (w : Fin 8),
      X (ix3 (0 : Fin 1) (⟨(t.val * 16 + q.val) * 8 + w.val, by omega⟩ : Fin 1024) c) = x n d t q w) (s t : Fin 8) :
    sums X (ix2 (⟨t.val * 8 + s.val, by omega⟩ : Fin 64) c) = Spec.frameSum x n s d t := by
  rw [sums_apply]
  unfold Spec.frameSum
  rw [Fin.sum_univ_two, ← Finset.sum_add_distrib]
  refine Finset.sum_congr rfl fun r _ => congrArg₂ _ ?_ ?_
  · rw [← hX]
    exact congrArg (fun e => X (ix3 (0 : Fin 1) e c)) (Fin.ext (by dsimp only [Fin.val_zero]; omega))
  · rw [← hX]
    exact congrArg (fun e => X (ix3 (0 : Fin 1) e c)) (Fin.ext (by dsimp only [Fin.val_one]; omega))

variable (m : (ℓ : Loc nD τ sig) → Buf (Elt Ideal) ℓ)

/-- The windows' block indices at a grid point. -/
theorem idx : ∀ t : Fin cfg0.N, win0_0.index t = ![t.val, 0, 0] ∧ win0_1.index t = ![t.val, 0, 1]
    ∧ win0_2.index t = ![t.val, 0, 2] ∧ win0_3.index t = ![t.val, 0, 3] ∧ win0_4.index t = ![t.val, 0, 0] :=
  (by decide +kernel : ∀ t : Fin grid0.N, _)

/-- The argument by its five coordinates. -/
def arg (c : Dev nD) : Fin 32 → Fin 2048 → Fin 8 → Fin 16 → Fin 8 → EReal := fun n k t q w =>
  (m ((c : Thread nD τ).loc main_arg0) : FVec Ideal S32x2048x8x16x8 .f32) (ix5 n k t q w)

/-- The array the grid reads is the argument transposed and reshaped. -/
theorem entry_eq (c : Dev nD) : V m c main_v1 = shapeCast S32x1024x2048 (transpose S32x8x16x8x2048 [0, 2, 3, 4, 1]
    (m ((c : Thread nD τ).loc main_arg0)) transposes_S32x2048x8x16x8_S32x8x16x8x2048_0_2_3_4_1)
      shapeCasts_S32x8x16x8x2048_S32x1024x2048 := by
  unfold V
  rfl

/-- Batch element `b` of grid point `t`, among all the batch elements. -/
def elt (t : Fin cfg0.N) (b : Fin 2) : Fin 32 := ⟨t.val * 2 + b.val, by have := t.isLt; have : cfg0.N = 16 := N_0; omega⟩

/-- The array the grid reads, as the argument's elements. -/
theorem entry_row (c : Dev nD) (n : Fin 32) (k : Fin 2048) (t : Fin 8) (q : Fin 16) (w : Fin 8) :
    V m c main_v1 (ix3 n (⟨(t.val * 16 + q.val) * 8 + w.val, by omega⟩ : Fin 1024) k) = arg m c n k t q w := by
  rw [entry_eq]
  exact entry_apply _ n k t q w

/-- The block of input window 0, as elements of the array the grid reads. -/
theorem iblk0 (c : Dev nD) (t : Fin cfg0.N) (b : Fin 2) (r : Fin 1024) (k : Fin 512) :
    iblk m c 0 t (ix3 b r k) = V m c main_v1 (ix3 (elt t b) r (⟨0 * 512 + k.val, by omega⟩ : Fin 2048)) := by
  blk_ext [iblk, elt, idx t]

/-- The block of input window 1, as elements of the array the grid reads. -/
theorem iblk1 (c : Dev nD) (t : Fin cfg0.N) (b : Fin 2) (r : Fin 1024) (k : Fin 512) :
    iblk m c 1 t (ix3 b r k) = V m c main_v1 (ix3 (elt t b) r (⟨1 * 512 + k.val, by omega⟩ : Fin 2048)) := by
  blk_ext [iblk, elt, idx t]

/-- The block of input window 2, as elements of the array the grid reads. -/
theorem iblk2 (c : Dev nD) (t : Fin cfg0.N) (b : Fin 2) (r : Fin 1024) (k : Fin 512) :
    iblk m c 2 t (ix3 b r k) = V m c main_v1 (ix3 (elt t b) r (⟨2 * 512 + k.val, by omega⟩ : Fin 2048)) := by
  blk_ext [iblk, elt, idx t]

/-- The block of input window 3, as elements of the array the grid reads. -/
theorem iblk3 (c : Dev nD) (t : Fin cfg0.N) (b : Fin 2) (r : Fin 1024) (k : Fin 512) :
    iblk m c 3 t (ix3 b r k) = V m c main_v1 (ix3 (elt t b) r (⟨3 * 512 + k.val, by omega⟩ : Fin 2048)) := by
  blk_ext [iblk, elt, idx t]

/-- The channel groups of batch element 0 of grid point `t` have the argument's frame sums. -/
theorem gathersA (c : Dev nD) (t : Fin cfg0.N) (s : Fin 8) :
    Gathers (View.ld (iblk m c 0 t) r0_0) (View.ld (iblk m c 1 t) r0_0) (View.ld (iblk m c 2 t) r0_0)
      (View.ld (iblk m c 3 t) r0_0) s (Spec.frameSum (arg m c) (elt t 0) s) where
  h0 u k := sums_frame (arg m c) _ _ k _ (fun u q w => by
    rw [← entry_row, ← iblk0]; pointwise) s u
  h1 u k := sums_frame (arg m c) _ _ k _ (fun u q w => by
    rw [← entry_row, ← iblk1]; pointwise) s u
  h2 u k := sums_frame (arg m c) _ _ k _ (fun u q w => by
    rw [← entry_row, ← iblk2]; pointwise) s u
  h3 u k := sums_frame (arg m c) _ _ k _ (fun u q w => by
    rw [← entry_row, ← iblk3]; pointwise) s u

/-- The channel groups of batch element 1 of grid point `t` have the argument's frame sums. -/
theorem gathersB (c : Dev nD) (t : Fin cfg0.N) (s : Fin 8) :
    Gathers (View.ld (iblk m c 0 t) r0_5) (View.ld (iblk m c 1 t) r0_5) (View.ld (iblk m c 2 t) r0_5)
      (View.ld (iblk m c 3 t) r0_5) s (Spec.frameSum (arg m c) (elt t 1) s) where
  h0 u k := sums_frame (arg m c) _ _ k _ (fun u q w => by
    rw [← entry_row, ← iblk0]; pointwise) s u
  h1 u k := sums_frame (arg m c) _ _ k _ (fun u q w => by
    rw [← entry_row, ← iblk1]; pointwise) s u
  h2 u k := sums_frame (arg m c) _ _ k _ (fun u q w => by
    rw [← entry_row, ← iblk2]; pointwise) s u
  h3 u k := sums_frame (arg m c) _ _ k _ (fun u q w => by
    rw [← entry_row, ← iblk3]; pointwise) s u

/-- The block grid point `t` leaves, at an index. -/
theorem block_apply (c : Dev nD) (t : Fin cfg0.N) (b : Fin 2) (s : Fin 8) (k : Fin 2048) :
    out0_4 (iblk m c 0 t) (iblk m c 1 t) (iblk m c 2 t) (iblk m c 3 t) (ix3 b s k) =
      Spec.result (Spec.frameSum (arg m c) (elt t b) s) k :=
  out_apply _ _ _ _ (fun b s => Spec.frameSum (arg m c) (elt t b) s) (gathersA m c t) (gathersB m c t) b s k

/-- The grid's result as an array. -/
def grid (c : Dev nD) : FVec Ideal S32x8x2048 .f32 := fun i => Spec.result (Spec.frameSum (arg m c) (i 0) (i 1)) (i 2)

/-- The grid's result array after the run. -/
theorem final (c : Dev nD) : (dats m 0 c).arrAt 4 cfg0.N = grid m c := by
  refine (dats m 0 c).arrAt_eq_of_covers 4 _ (by decide +kernel) fun t _ y => ?_
  blk_simp
  rw [after0_4]
  obtain ⟨b, s, k, rfl⟩ : ∃ (b : Fin 2) (s : Fin 8) (k : Fin 2048), y = ix3 b s k :=
    ⟨y 0, y 1, y 2, funext fun i => by fin_cases i <;> rfl⟩
  have e : (win0_4.blk t).view.emb (ix3 b s k) = ix3 (elt t b) s k := by blk_ext [elt, idx t]
  rw [e]
  exact block_apply m c t b s k

/-- The kernel's result: the grid's, its stripes side by side. -/
def out (c : Dev nD) : FVec Ideal S32x16384 .f32 := shapeCast S32x16384 (grid m c) shapeCasts_S32x8x2048_S32x16384

/-- The result array after the run: the closing reshape of the grid's result. -/
theorem tail (c : Dev nD) : Pipeline.afterTail₀ cfgs (dats m) 0 (V0 m) [hostOps1] c main_v3 = out m c := by
  have h := Pipeline.Dat.withArrays_arrAt (dats m 0 c) sharedIn0 (V0 m c) (A_eq m c) 4
  unfold Pipeline.afterTail₀ out
  rw [← final, ← h]
  rfl

/-- The kernel's result at batch element `n`, stripe `s`, channel `k`. -/
theorem out_at (c : Dev nD) (n : Fin 32) (s : Fin 8) (k : Fin 2048) :
    out m c (ix2 n (⟨s.val * 2048 + k.val, by omega⟩ : Fin 16384)) = Spec.result (Spec.frameSum (arg m c) n s) k := by
  have h : ∀ v : FVec Ideal S32x8x2048 .f32, shapeCast S32x16384 v shapeCasts_S32x8x2048_S32x16384
      (ix2 n (⟨s.val * 2048 + k.val, by omega⟩ : Fin 16384)) = v (ix3 n s k) := by
    intro v
    pointwise
  exact h _

variable (ρ : Dev nD → PrngReg)

/-- The kernel's run: its result array holds `out`, and the argument is unchanged. -/
theorem run : θ_run defs (onTc (τ := τ) (main (F := Ideal))) ⟨m, fun _ => 0, ρ⟩ fun r => ∀ c : Dev nD,
      r.2.mem ((c : Thread nD τ).loc main_v3) = out m c
      ∧ r.2.mem ((c : Thread nD τ).loc main_arg0) = m ((c : Thread nD τ).loc main_arg0) :=
  (θ_run defs _ _).mono (fun _ h c =>
    ⟨((h c).2 main_v3 (Pipeline.mem_restRefs_of main_v3 (by decide) (by decide))).trans (tail m c),
      ((h c).2 main_arg0 (Pipeline.mem_restRefs_of main_arg0 (by decide) (by decide))).trans (W_main_arg0 m (dats m) c)⟩)
    (run_main m ρ)

end Cert.Block
end
-- ==== Proof.RefStripe.lean ====
module
public import proofs.«01_k».proof.Proof.Gen.ReferenceIdeal.Run
public import proofs.«01_k».proof.Proof.Spec
public import Idealize.ShloMosaic.Lib.Pointwise

/-!
# One stripe of the reference program

The reference treats its eight stripes alike; here the operations of one stripe are named once, over the
offset where the stripe starts.
-/

@[expose] public section

set_option maxRecDepth 16384

noncomputable section

namespace Cert.RefStripe
open Cert.ReferenceIdeal Cert.ReferenceIdeal.Gen Idealize.ShloMosaic

variable {F : FTy → Type} [FloatOps F]

/-- The frame features of the stripe that starts at `o`: the mean over its two rows and eight columns. -/
def feat (x : FVec F S32x2048x8x16x8 .f32) (o : Fin 5 → Nat) (h : S32x2048x8x16x8.Slices o S32x2048x8x2x8) :
    FVec F S32x2048x8 .f32 :=
  Host.divf (Host.reduceAdd (extractStridedSlice S32x2048x8x2x8 o x h) (constant S_ .f32 0x00000000#32)
    reducesTo_S32x2048x8x2x8_S32x2048x8_d3_4 h_S_)
    (broadcastInDim S32x2048x8 ![] bcast_S_S32x2048x8 (constant S_ .f32 0x41800000#32))

/-- The score of each frame: the square root of the clipped sum of squares over the channels. -/
def score (f : FVec F S32x2048x8 .f32) : FVec F S32x8 .f32 :=
  Host.sqrt (maximumf (broadcastInDim S32x8 ![] bcast_S_S32x8 (id (constant S_ .f32 0x358637BD#32)))
    (Host.reduceAdd (mulf f f) (constant S_ .f32 0x00000000#32) reducesTo_S32x2048x8_S32x8_d1 h_S_))

/-- The positions of the two leading frames, as the gather's start indices. -/
def starts (sc : FVec F S32x8 .f32) : IVec S32x2x1 32 :=
  let i : IVec S32x1x2 32 := broadcastInDim S32x1x2 ![0, 2] bcast_S32x2_S32x1x2_0_2
    ((Host.topK S32x2 1 (FloatOps.cmpfTotal .gt) sc sliceFits_S32x8_S32x2).2)
  shapeCast _ (select (cmpi .slt i (broadcastInDim S32x1x2 ![] bcast_S_S32x1x2 (constantI S_ 32 0#32)))
    (addi i (broadcastInDim S32x1x2 ![] bcast_S_S32x1x2 (constantI S_ 32 8#32))) i) shapeCasts_S32x1x2_S32x2x1

/-- Half the sum of the features of the frames taken at the start indices. -/
def taken (f : FVec F S32x2048x8 .f32) (i : IVec S32x2x1 32) : FVec F S32x2048 .f32 :=
  Host.divf (Host.reduceAdd (select (broadcastInDim S32x2048x2 ![0, 2] bcast_S32x2_S32x2048x2_0_2
      (Host.reduce IntOp.andi (andi
          (cmpi .sge i (broadcastInDim S32x2x1 ![] bcast_S_S32x2x1 (constantI S_ 32 0#32)))
          (cmpi .sle i (broadcastInDim S32x2x1 ![0, 1, 2] bcast_S1x1x1_S32x2x1_0_1_2
            (broadcastInDim S1x1x1 ![2] bcast_S1_S1x1x1_2 (constantI S1 32 7#32)))))
        (constantI S_ 1 1#1) reducesTo_S32x2x1_S32x2_d2 h_S_))
      (Host.gather gather_S32x2048x8_S32x2x1_S32x2048x2_1_2_0_0_2_2_120481 f i)
      (broadcastInDim S32x2048x2 ![] bcast_S_S32x2048x2 (constant S_ .f32 0x7FC00000#32)))
    (constant S_ .f32 0x00000000#32) reducesTo_S32x2048x2_S32x2048_d2 h_S_)
    (broadcastInDim S32x2048 ![] bcast_S_S32x2048 (constant S_ .f32 0x40000000#32))

/-- One stripe's result. -/
def stripe (f : FVec F S32x2048x8 .f32) : FVec F S32x2048 .f32 := taken f (starts (score f))

/-- The reference's result is its eight stripes side by side. -/
theorem result_eq (V0 : Valuation τ sig (Elt F)) :
    Cert.ReferenceIdeal.Value.res_out0 V0 =
      concatenate S32x16384 1
        [⟨S32x2048, stripe (feat (V0 (Proc.devRef .tc main_arg0)) ![0, 0, 0, 0, 0] slices_S32x2048x8x16x8_S32x2048x8x2x8_0_0_0_0_0)⟩,
         ⟨S32x2048, stripe (feat (V0 (Proc.devRef .tc main_arg0)) ![0, 0, 0, 2, 0] slices_S32x2048x8x16x8_S32x2048x8x2x8_0_0_0_2_0)⟩,
         ⟨S32x2048, stripe (feat (V0 (Proc.devRef .tc main_arg0)) ![0, 0, 0, 4, 0] slices_S32x2048x8x16x8_S32x2048x8x2x8_0_0_0_4_0)⟩,
         ⟨S32x2048, stripe (feat (V0 (Proc.devRef .tc main_arg0)) ![0, 0, 0, 6, 0] slices_S32x2048x8x16x8_S32x2048x8x2x8_0_0_0_6_0)⟩,
         ⟨S32x2048, stripe (feat (V0 (Proc.devRef .tc main_arg0)) ![0, 0, 0, 8, 0] slices_S32x2048x8x16x8_S32x2048x8x2x8_0_0_0_8_0)⟩,
         ⟨S32x2048, stripe (feat (V0 (Proc.devRef .tc main_arg0)) ![0, 0, 0, 10, 0] slices_S32x2048x8x16x8_S32x2048x8x2x8_0_0_0_10_0)⟩,
         ⟨S32x2048, stripe (feat (V0 (Proc.devRef .tc main_arg0)) ![0, 0, 0, 12, 0] slices_S32x2048x8x16x8_S32x2048x8x2x8_0_0_0_12_0)⟩,
         ⟨S32x2048, stripe (feat (V0 (Proc.devRef .tc main_arg0)) ![0, 0, 0, 14, 0] slices_S32x2048x8x16x8_S32x2048x8x2x8_0_0_0_14_0)⟩]
        concatenates_S32x2048_S32x2048_S32x2048_S32x2048_S32x2048_S32x2048_S32x2048_S32x2048_S32x16384_d1 := rfl

/-! ## The stripe read at an index, over the extended reals -/

/-- A sum over the last two of five axes, as a double sum. -/
theorem sum_last_two (h : S32x2048x8x2x8.ReducesTo [3, 4] S32x2048x8) (v : S32x2048x8x2x8.Idx → EReal)
    (n : Fin 32) (c : Fin 2048) (t : Fin 8) :
    ∑ i ∈ Finset.univ.filter (fun i => h.drop i = ix3 n c t), v i = ∑ a : Fin 2, ∑ w : Fin 8, v (ix5 n c t a w) := by
  rw [Finset.sum_filter_eq_sum_of_fiber _ (fun k : Fin 2 × Fin 8 => (ix5 n c t k.1 k.2 : S32x2048x8x2x8.Idx)) ?_ ?_ v]
  · exact Fintype.sum_prod_type _
  · intro k k' e
    exact Prod.ext (congrFun e 3) (congrFun e 4)
  · intro i
    constructor
    · intro e
      refine ⟨(i 3, i 4), ?_⟩
      funext a; apply Fin.ext
      match a with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => rfl
      | ⟨4, _⟩ => rfl
    · rintro ⟨k, rfl⟩
      funext b
      apply Fin.ext
      match b with
      | ⟨0, _⟩ => rfl
      | ⟨1, _⟩ => rfl
      | ⟨2, _⟩ => rfl

/-- The feature of frame `t`, channel `c`. -/
theorem feat_apply (x : FVec Ideal S32x2048x8x16x8 .f32) (s : Fin 8)
    (h : S32x2048x8x16x8.Slices ![0, 0, 0, 2 * s.val, 0] S32x2048x8x2x8) (n : Fin 32) (c : Fin 2048) (t : Fin 8) :
    feat x ![0, 0, 0, 2 * s.val, 0] h (ix3 n c t) =
      Ideal.div (∑ a : Fin 2, ∑ w : Fin 8, x (ix5 n c t ⟨2 * s.val + a.val, by omega⟩ w)) (Ideal.ofBits .f32 0x41800000#32) := by
  unfold feat
  pointwise
  unfold Ideal.hostReduceAdd
  rw [sum_last_two, zero_add]
  congr 1
  refine Finset.sum_congr rfl fun a _ => Finset.sum_congr rfl fun w _ => ?_
  pointwise
  try (congr 1)

/-- The score of frame `t`. -/
theorem score_apply (f : FVec Ideal S32x2048x8 .f32) (n : Fin 32) (t : Fin 8) :
    score f (ix2 n t) = Ideal.sqrt (max (Ideal.ofBits .f32 0x358637BD#32) (∑ c : Fin 2048, f (ix3 n c t) * f (ix3 n c t))) := by
  unfold score
  pointwise
  rfl

/-- The positions `topK` gives: the leading places of the stable descending sort. -/
theorem topK_apply (sc : FVec Ideal S32x8 .f32) (n : Fin 32) (k : Fin 2) :
    (Host.topK S32x2 1 (FloatOps.cmpfTotal .gt) sc sliceFits_S32x8_S32x2).2 (ix2 n k) =
      BitVec.ofNat 32 (sortedFrom (fun a b : Fin 8 => FloatOps.cmpfTotal (F := Ideal) (φ := .f32) .gt (sc (ix2 n a)) (sc (ix2 n b)) == 1#1)
        ⟨k.val, by omega⟩).val := by
  have hal : ∀ (j : S32x8.Idx) (a : Fin 8), j 0 = n → Shape.Idx.along j (1 : Fin 2) a = (ix2 n a : S32x8.Idx) := by
    intro j a hj
    funext b
    match b with
    | ⟨0, _⟩ => exact hj
    | ⟨1, _⟩ => rfl
  unfold Host.topK
  dsimp only
  have hs : ∀ y : IVec S32x8 32, extractStridedSlice S32x2 (fun _ => 0) y sliceFits_S32x8_S32x2 (ix2 n k)
      = y (ix2 n (⟨k.val, by omega⟩ : Fin 8)) := by
    intro y
    unfold extractStridedSlice
    congr 1
    funext b
    apply Fin.ext
    match b with
    | ⟨0, _⟩ => exact Nat.zero_add _
    | ⟨1, _⟩ => exact Nat.zero_add _
  rw [hs]
  unfold Host.sort2
  rw [dif_pos (show 1 < S32x8.rank by decide)]
  dsimp only
  rw [dif_pos (show 1 < S32x8.rank by decide)]
  refine congrArg (fun R : Fin 8 → Fin 8 → Bool => BitVec.ofNat 32 (sortedFrom R (⟨k.val, by omega⟩ : Fin 8)).val) ?_
  funext a b
  exact congrArg₂ (fun u v : S32x8.Idx => FloatOps.cmpfTotal (F := Ideal) (φ := .f32) .gt (sc u) (sc v) == 1#1)
    (hal _ a rfl) (hal _ b rfl)

/-- The start index of the two taken frames. -/
theorem starts_apply (sc : FVec Ideal S32x8 .f32) (n : Fin 32) (k : Fin 2) :
    starts sc (ix3 n k (0 : Fin 1)) =
      BitVec.ofNat 32 (sortedFrom (fun a b : Fin 8 => FloatOps.cmpfTotal (F := Ideal) (φ := .f32) .gt (sc (ix2 n a)) (sc (ix2 n b)) == 1#1)
        ⟨k.val, by omega⟩).val := by
  have key : ∀ p : Fin 8, Scalar.select (IntOp.cmpi .slt (BitVec.ofNat 32 p.val) 0#32)
      (IntOp.addi (BitVec.ofNat 32 p.val) 8#32) (BitVec.ofNat 32 p.val) = BitVec.ofNat 32 p.val := by decide +kernel
  unfold starts
  pointwise
  rw [topK_apply, key]

/-- The gather reads frame `p` where the start index is `p`. -/
theorem gather_apply (f : FVec Ideal S32x2048x8 .f32) (i : IVec S32x2x1 32) (n : Fin 32) (c : Fin 2048) (k : Fin 2) (p : Fin 8)
    (hp : i (ix3 n k (0 : Fin 1)) = BitVec.ofNat 32 p.val) :
    Host.gather gather_S32x2048x8_S32x2x1_S32x2048x2_1_2_0_0_2_2_120481 f i (ix3 n c k) = f (ix3 n c p) := by
  have key : ∀ p : Fin 8, min (BitVec.ofNat 32 p.val).toInt.toNat 7 = p.val := by decide +kernel
  have hi : GatherDims.siIdx gather_S32x2048x8_S32x2x1_S32x2048x2_1_2_0_0_2_2_120481 (ix3 n c k) ⟨0, by decide⟩
      = (ix3 n k (0 : Fin 1) : S32x2x1.Idx) := by
    funext b
    apply Fin.ext
    match b with
    | ⟨0, _⟩ => rfl
    | ⟨1, _⟩ => rfl
    | ⟨2, _⟩ => rfl
  unfold Host.gather
  congr 1
  funext a
  apply Fin.ext
  match a with
  | ⟨0, _⟩ => exact (Nat.zero_add _)
  | ⟨1, _⟩ => exact (Nat.zero_add _)
  | ⟨2, _⟩ =>
    show min (i (GatherDims.siIdx gather_S32x2048x8_S32x2x1_S32x2048x2_1_2_0_0_2_2_120481 (ix3 n c k) ⟨0, _⟩)).toInt.toNat 7 = p.val
    rw [hi, hp, key]

/-- A stripe's result from its two start indices. -/
theorem taken_apply (f : FVec Ideal S32x2048x8 .f32) (i : IVec S32x2x1 32) (n : Fin 32) (c : Fin 2048) (p q : Fin 8)
    (hp : i (ix3 n (0 : Fin 2) (0 : Fin 1)) = BitVec.ofNat 32 p.val) (hq : i (ix3 n (1 : Fin 2) (0 : Fin 1)) = BitVec.ofNat 32 q.val) :
    taken f i (ix2 n c) = Ideal.div (f (ix3 n c p) + f (ix3 n c q)) (Ideal.ofBits .f32 0x40000000#32) := by
  have key : ∀ p : Fin 8, IntOp.andi (IntOp.andi (IntOp.cmpi .sge (BitVec.ofNat 32 p.val) 0#32)
      (IntOp.cmpi .sle (BitVec.ofNat 32 p.val) 7#32)) 1#1 = 1#1 := by decide +kernel
  unfold taken
  pointwise
  rw [Fin.sum_univ_two, gather_apply f i n c 0 p hp, gather_apply f i n c 1 q hq]
  simp only [Finset.univ_unique, Fin.default_eq_zero, Finset.fold_singleton, Fin.isValue]
  rw [hp, hq, key, key]
  rfl

/-- A stripe of the reference is the result over its frame sums. -/
theorem stripe_apply (x : FVec Ideal S32x2048x8x16x8 .f32) (s : Fin 8)
    (h : S32x2048x8x16x8.Slices ![0, 0, 0, 2 * s.val, 0] S32x2048x8x2x8) (n : Fin 32) (c : Fin 2048) :
    stripe (feat x ![0, 0, 0, 2 * s.val, 0] h) (ix2 n c) =
      Spec.result (Spec.frameSum (fun n c t h w => x (ix5 n c t h w)) n s) c := by
  have hf : ∀ (c : Fin 2048) (t : Fin 8), feat x ![0, 0, 0, 2 * s.val, 0] h (ix3 n c t) =
      Ideal.div (Spec.frameSum (fun n c t h w => x (ix5 n c t h w)) n s c t) (Ideal.ofBits .f32 0x41800000#32) :=
    fun c t => feat_apply x s h n c t
  have hs : ∀ t : Fin 8, score (feat x ![0, 0, 0, 2 * s.val, 0] h) (ix2 n t) =
      Arith.refScore fun c => Spec.frameSum (fun n c t h w => x (ix5 n c t h w)) n s c t := by
    intro t
    rw [score_apply]
    unfold Arith.refScore
    congr 2
    exact Finset.sum_congr rfl fun c _ => by rw [hf]
  have hR : (fun a b : Fin 8 => FloatOps.cmpfTotal (F := Ideal) (φ := .f32) .gt
        (score (feat x ![0, 0, 0, 2 * s.val, 0] h) (ix2 n a)) (score (feat x ![0, 0, 0, 2 * s.val, 0] h) (ix2 n b)) == 1#1)
      = fun a b => decide (Arith.refScore (fun c => Spec.frameSum (fun n c t h w => x (ix5 n c t h w)) n s c b)
          < Arith.refScore (fun c => Spec.frameSum (fun n c t h w => x (ix5 n c t h w)) n s c a)) := by
    funext a b
    rw [hs, hs]
    have key : ∀ b : Bool, (BitVec.ofBool b == 1#1) = b := by decide
    exact key _
  unfold stripe
  rw [taken_apply _ _ n c (Spec.place (Spec.frameSum (fun n c t h w => x (ix5 n c t h w)) n s) 0)
    (Spec.place (Spec.frameSum (fun n c t h w => x (ix5 n c t h w)) n s) 1)
    ((starts_apply _ n 0).trans (by rw [hR]; rfl)) ((starts_apply _ n 1).trans (by rw [hR]; rfl)), hf, hf]
  rfl

/-- Eight stripes side by side, at an index. -/
theorem glue_apply (v : Fin 8 → FVec Ideal S32x2048 .f32) (n : Fin 32) (s : Fin 8) (c : Fin 2048) :
    concatenate S32x16384 1 [⟨S32x2048, v 0⟩, ⟨S32x2048, v 1⟩, ⟨S32x2048, v 2⟩, ⟨S32x2048, v 3⟩, ⟨S32x2048, v 4⟩,
      ⟨S32x2048, v 5⟩, ⟨S32x2048, v 6⟩, ⟨S32x2048, v 7⟩] concatenates_S32x2048_S32x2048_S32x2048_S32x2048_S32x2048_S32x2048_S32x2048_S32x2048_S32x16384_d1
      (ix2 n (⟨s.val * 2048 + c.val, by omega⟩ : Fin 16384)) = v s (ix2 n c) := by
  have key : ∀ (k : Fin 8) (e : Fin 2048), k.val = s.val → e.val = c.val → v k (ix2 n e) = v s (ix2 n c) :=
    fun k e hk he => by rw [Fin.ext hk, Fin.ext he]
  have hs := s.isLt
  have hc := c.isLt
  pointwise
  by_cases h0 : s.val * 2048 + c.val < 2048
  · rw [dif_pos h0]; exact key 0 _ (by change 0 = _; omega) (by change s.val * 2048 + c.val = _; omega)
  rw [dif_neg h0]
  by_cases h1 : s.val * 2048 + c.val - 2048 < 2048
  · rw [dif_pos h1]; exact key 1 _ (by change 1 = _; omega) (by change s.val * 2048 + c.val - 2048 = _; omega)
  rw [dif_neg h1]
  by_cases h2 : s.val * 2048 + c.val - 2048 - 2048 < 2048
  · rw [dif_pos h2]; exact key 2 _ (by change 2 = _; omega) (by change s.val * 2048 + c.val - 2048 - 2048 = _; omega)
  rw [dif_neg h2]
  by_cases h3 : s.val * 2048 + c.val - 2048 - 2048 - 2048 < 2048
  · rw [dif_pos h3]; exact key 3 _ (by change 3 = _; omega) (by change s.val * 2048 + c.val - 2048 - 2048 - 2048 = _; omega)
  rw [dif_neg h3]
  by_cases h4 : s.val * 2048 + c.val - 2048 - 2048 - 2048 - 2048 < 2048
  · rw [dif_pos h4]; exact key 4 _ (by change 4 = _; omega) (by change s.val * 2048 + c.val - 2048 - 2048 - 2048 - 2048 = _; omega)
  rw [dif_neg h4]
  by_cases h5 : s.val * 2048 + c.val - 2048 - 2048 - 2048 - 2048 - 2048 < 2048
  · rw [dif_pos h5]; exact key 5 _ (by change 5 = _; omega) (by change s.val * 2048 + c.val - 2048 - 2048 - 2048 - 2048 - 2048 = _; omega)
  rw [dif_neg h5]
  by_cases h6 : s.val * 2048 + c.val - 2048 - 2048 - 2048 - 2048 - 2048 - 2048 < 2048
  · rw [dif_pos h6]; exact key 6 _ (by change 6 = _; omega) (by change s.val * 2048 + c.val - 2048 - 2048 - 2048 - 2048 - 2048 - 2048 = _; omega)
  rw [dif_neg h6]
  exact key 7 _ (by change 7 = _; omega) (by change s.val * 2048 + c.val - 2048 - 2048 - 2048 - 2048 - 2048 - 2048 - 2048 = _; omega)

/-- The reference's result at batch element `n`, stripe `s`, channel `c`. -/
theorem result_apply (V0 : Valuation τ sig (Elt Ideal)) (n : Fin 32) (s : Fin 8) (c : Fin 2048) :
    (Cert.ReferenceIdeal.Value.res_out0 V0 : FVec Ideal S32x16384 .f32) (ix2 n (⟨s.val * 2048 + c.val, by omega⟩ : Fin 16384)) =
      Spec.result (Spec.frameSum (fun n c t h w => (V0 (Proc.devRef .tc main_arg0) : FVec Ideal S32x2048x8x16x8 .f32) (ix5 n c t h w)) n s) c := by
  rw [result_eq]
  refine Eq.trans (glue_apply (fun s => stripe (feat (V0 (Proc.devRef .tc main_arg0)) ![0, 0, 0, 2 * s.val, 0] (by revert s; decide))) n s c) ?_
  exact stripe_apply _ s _ n c

end Cert.RefStripe
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Block
public import proofs.«01_k».proof.Proof.RefStripe
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs to its end, leaves its argument unchanged and every semaphore at zero. -/
theorem frame_kernel : Cert.quiescent_Kernel := fun m ρ _ => Cert.Kernel.Gen.frame m ρ

/-- So does its idealization. -/
theorem frame_kernel_ideal : Cert.quiescent_KernelIdeal := fun m ρ _ => Cert.KernelIdeal.Gen.frame m ρ

/-- So does the reference, which has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealization rewrote nothing. -/
theorem preserves : Cert.preserves_Kernel_KernelIdeal := trivial

/-- From equal arguments the reference's result is the kernel's, index by index: both hold the result of the same
    frame sums. -/
theorem reference_eq (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (h : V0 (Proc.devRef .tc Cert.ReferenceIdeal.main_arg0) = m ((c : Thread Cert.KernelIdeal.nD Cert.KernelIdeal.τ).loc Cert.KernelIdeal.main_arg0)) :
    Cert.ReferenceIdeal.Value.res_out0 V0 = Cert.Block.out m c := by
  funext i
  obtain ⟨n, j, rfl⟩ : ∃ (n : Fin 32) (j : Fin 16384), i = ix2 n j := ⟨i 0, i 1, funext fun a => by fin_cases a <;> rfl⟩
  obtain ⟨s, k, rfl⟩ : ∃ (s : Fin 8) (k : Fin 2048), j = ⟨s.val * 2048 + k.val, by omega⟩ :=
    ⟨⟨j.val / 2048, by omega⟩, ⟨j.val % 2048, by omega⟩, Fin.ext (by dsimp only; omega)⟩
  refine (Cert.RefStripe.result_apply V0 n s k).trans (Eq.trans ?_ (Cert.Block.out_at m c n s k).symm)
  unfold Cert.Block.arg
  rw [h]

/-- Over the extended reals the kernel's result array is the reference's. -/
theorem algebraic : Cert.algebraic_KernelIdeal_ReferenceIdeal := by
  intro m ρ m' ρ' _ hagree
  refine ⟨fun c => Cert.Block.out m c, Cert.Block.run m ρ, ?_⟩
  refine (θ_run Cert.ReferenceIdeal.defs _ _).mono (fun r h c => ⟨(h c).1.trans ?_, (h c).2⟩)
    (Cert.ReferenceIdeal.Value.run (F := Ideal) m' ρ')
  exact reference_eq m _ c (hagree c)

/-- All the claims. -/
theorem claim : Cert.Claim := ⟨Cert.Kernel.Gen.facts, Cert.KernelIdeal.Gen.facts, Cert.ReferenceIdeal.Gen.facts,
  frame_kernel, frame_kernel_ideal, frame_reference, preserves, algebraic⟩

end Cert.Proof

end
